-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "tenth" .f32 0x3DCCCCCD#32 ((10⁻¹ : ℝ) : EReal)
  ∧ IdealRules.named_const.Statement Cert.KernelIdeal.κ "log_n" .f32 0x41051592#32 ((Real.log 4096 : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩
abbrev S4096x11 : Shape := ⟨2, ![4096, 11]⟩
abbrev S4096x10 : Shape := ⟨2, ![4096, 10]⟩
abbrev S4096x32x128 : Shape := ⟨3, ![4096, 32, 128]⟩
abbrev S4096x128 : Shape := ⟨2, ![4096, 128]⟩

class Facts : Prop where
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x64_S64x4096_1_0 : S4096x64.Transposes [1, 0] S64x4096
  bcast_S_S4096x4096 : S_.BroadcastsInDim S4096x4096 (![] : Fin 0 → Fin S4096x4096.rank)
  sliceFits_S4096x4096_S4096x11 : S4096x4096.Slices (fun _ => 0) S4096x11
  slices_S4096x11_S4096x10_0_1 : S4096x11.Slices ![0, 1] S4096x10
  slices_S4096x11_S4096x10_0_0 : S4096x11.Slices ![0, 0] S4096x10
  reducesTo_S4096x10_S_d0_1 : S4096x10.ReducesTo [0, 1] S_
  bcast_S_S4096x11 : S_.BroadcastsInDim S4096x11 (![] : Fin 0 → Fin S4096x11.rank)
  reducesTo_S4096x11_S_d0_1 : S4096x11.ReducesTo [0, 1] S_
  slices_S4096x11_S4096x1_0_10 : S4096x11.Slices ![0, 10] S4096x1
  natLt_1_32 : 1 < 32
  shapeCasts_S4096x4096_S4096x32x128 : S4096x4096.ShapeCasts S4096x32x128
  reducesTo_S4096x32x128_S4096x128_d1 : S4096x32x128.ReducesTo [1] S4096x128
  bcast_S_S4096x128 : S_.BroadcastsInDim S4096x128 (![] : Fin 0 → Fin S4096x128.rank)
  reducesTo_S4096x128_S_d0_1 : S4096x128.ReducesTo [0, 1] S_
  dot_S4096x64_S64x4096_S4096x4096_1_0_0_1_n_n_wf : DotDims.WF S4096x64 S64x4096 S4096x4096 [1] [0] [0] [1] [] []

variable [Facts]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def fn_where {F : FTy → Type} [FloatOps F] (arg0 : IVec S4096x4096 1) (arg1 : FVec F S4096x4096 .f32) (arg2 : FVec F S_ .f32) : FVec F S4096x4096 .f32 :=
  let v0 : FVec F S_ .f32 := id arg2
  let v1 : FVec F S4096x4096 .f32 := broadcastInDim S4096x4096 ![] bcast_S_S4096x4096 v0
  let v2 : FVec F S4096x4096 .f32 := select arg0 arg1 v1
  v2

def fn_part2 {F : FTy → Type} [FloatOps F] (main_v25 : IVec S_ 1) (main_v28 : IVec S_ 1) (main_v34 : IVec S4096x32x128 32) (main_c_8 : IVec S_ 32) : IVec S_ 1 :=
  let main_v35 : IVec S4096x128 32 := (fun x v => Host.reduce IntOp.addi x v reducesTo_S4096x32x128_S4096x128_d1 h_S_) main_v34 main_c_8
  let main_v36 : IVec S_ 1 := andi main_v25 main_v28
  let main_c_9 : IVec S_ 32 := constantI S_ 32 2#32
  let main_v37 : IVec S4096x128 32 := broadcastInDim S4096x128 ![] bcast_S_S4096x128 main_c_9
  let main_v38 : IVec S4096x128 1 := cmpi .sle main_v35 main_v37
  let main_c_10 : IVec S_ 1 := constantI S_ 1 1#1
  let main_v39 : IVec S_ 1 := (fun x v => Host.reduce IntOp.andi x v reducesTo_S4096x128_S_d0_1 h_S_) main_v38 main_c_10
  let main_v40 : IVec S_ 1 := andi main_v36 main_v39
  main_v40

def fn_part1 {F : FTy → Type} [FloatOps F] (main_v13 : FVec F S4096x4096 .f32) (main_v15 : IVec S4096x4096 1) (main_v17 : IVec S4096x4096 1) (main_cst_4 : FVec F S_ .f32) : IVec S_ 1 :=
  let main_v18 : FVec F S4096x4096 .f32 := fn_where (F := F) main_v17 main_v13 main_cst_4
  let main_v19 : FVec F S4096x4096 .f32 := Host.sqrt main_v18
  let main_cst_5 : FVec F S_ .f32 := constant S_ .f32 0x00000000#32
  let main_v20 : FVec F S4096x4096 .f32 := fn_where (F := F) main_v15 main_v19 main_cst_5
  let main_v21 : FVec F S4096x4096 .f32 := Host.negf main_v20
  let main_values : FVec F S4096x11 .f32 := (fun x => (Host.topK S4096x11 1 (FloatOps.cmpfTotal .gt) x sliceFits_S4096x4096_S4096x11).1) main_v21
  let main_indices : IVec S4096x11 32 := (fun x => (Host.topK S4096x11 1 (FloatOps.cmpfTotal .gt) x sliceFits_S4096x4096_S4096x11).2) main_v21
  let main_v22 : FVec F S4096x10 .f32 := (extractStridedSlice S4096x10 ![0, 1] · slices_S4096x11_S4096x10_0_1) main_values
  let main_v23 : FVec F S4096x10 .f32 := (extractStridedSlice S4096x10 ![0, 0] · slices_S4096x11_S4096x10_0_0) main_values
  let main_v24 : IVec S4096x10 1 := cmpf .olt main_v22 main_v23
  let main_c : IVec S_ 1 := constantI S_ 1 1#1
  let main_v25 : IVec S_ 1 := (fun x v => Host.reduce IntOp.andi x v reducesTo_S4096x10_S_d0_1 h_S_) main_v24 main_c
  let main_cst_6 : FVec F S_ .f32 := constant S_ .f32 0xDF0AC723#32
  let main_v26 : FVec F S4096x11 .f32 := broadcastInDim S4096x11 ![] bcast_S_S4096x11 main_cst_6
  let main_v27 : IVec S4096x11 1 := cmpf .ogt main_values main_v26
  let main_c_7 : IVec S_ 1 := constantI S_ 1 1#1
  let main_v28 : IVec S_ 1 := (fun x v => Host.reduce IntOp.andi x v reducesTo_S4096x11_S_d0_1 h_S_) main_v27 main_c_7
  let main_v29 : FVec F S4096x4096 .f32 := Host.negf main_v20
  let main_v30 : FVec F S4096x1 .f32 := (extractStridedSlice S4096x1 ![0, 10] · slices_S4096x11_S4096x1_0_10) main_values
  let main_v31 : FVec F S4096x4096 .f32 := broadcastInDim S4096x4096 ![0, 1] bcast_S4096x1_S4096x4096_0_1 main_v30
  let main_v32 : IVec S4096x4096 1 := cmpf .oge main_v29 main_v31
  let main_v33 : IVec S4096x4096 32 := (extui 32 · natLt_1_32) main_v32
  let main_v34 : IVec S4096x32x128 32 := shapeCast S4096x32x128 main_v33 shapeCasts_S4096x4096_S4096x32x128
  let main_c_8 : IVec S_ 32 := constantI S_ 32 0#32
  fn_part2 (F := F) main_v25 main_v28 main_v34 main_c_8

def fn {F : FTy → Type} [FloatOps F] (main_arg0 : FVec F S4096x64 .f32) : IVec S_ 1 :=
  let main_v0 : FVec F S4096x64 .f32 := mulf main_arg0 main_arg0
  let main_cst : FVec F S_ .f32 := constant S_ .f32 0x00000000#32
  let main_v1 : FVec F S4096 .f32 := (fun x v => Host.reduceAdd x v reducesTo_S4096x64_S4096_d1 h_S_) main_v0 main_cst
  let main_v2 : FVec F S4096x1 .f32 := broadcastInDim S4096x1 ![0] bcast_S4096_S4096x1_0 main_v1
  let main_v3 : FVec F S1x4096 .f32 := broadcastInDim S1x4096 ![1] bcast_S4096_S1x4096_1 main_v1
  let main_v4 : FVec F S4096x4096 .f32 := broadcastInDim S4096x4096 ![0, 1] bcast_S4096x1_S4096x4096_0_1 main_v2
  let main_v5 : FVec F S4096x4096 .f32 := broadcastInDim S4096x4096 ![0, 1] bcast_S1x4096_S4096x4096_0_1 main_v3
  let main_v6 : FVec F S4096x4096 .f32 := addf main_v4 main_v5
  let main_v7 : FVec F S64x4096 .f32 := (transpose S64x4096 [1, 0] · transposes_S4096x64_S64x4096_1_0) main_arg0
  let main_v8 : FVec F S4096x4096 .f32 := (fun l r => Host.dotGeneral dot_S4096x64_S64x4096_S4096x4096_1_0_0_1_n_n none l r) main_arg0 main_v7
  let main_cst_0 : FVec F S_ .f32 := constant S_ .f32 0x40000000#32
  let main_v9 : FVec F S4096x4096 .f32 := broadcastInDim S4096x4096 ![] bcast_S_S4096x4096 main_cst_0
  let main_v10 : FVec F S4096x4096 .f32 := mulf main_v9 main_v8
  let main_v11 : FVec F S4096x4096 .f32 := subf main_v6 main_v10
  let main_cst_1 : FVec F S_ .f32 := constant S_ .f32 0x00000000#32
  let main_v12 : FVec F S4096x4096 .f32 := broadcastInDim S4096x4096 ![] bcast_S_S4096x4096 main_cst_1
  let main_v13 : FVec F S4096x4096 .f32 := maximumf main_v11 main_v12
  let main_cst_2 : FVec F S_ .f32 := constant S_ .f32 0x00000000#32
  let main_v14 : FVec F S4096x4096 .f32 := broadcastInDim S4096x4096 ![] bcast_S_S4096x4096 main_cst_2
  let main_v15 : IVec S4096x4096 1 := cmpf .ogt main_v13 main_v14
  let main_cst_3 : FVec F S_ .f32 := constant S_ .f32 0x00000000#32
  let main_v16 : FVec F S4096x4096 .f32 := broadcastInDim S4096x4096 ![] bcast_S_S4096x4096 main_cst_3
  let main_v17 : IVec S4096x4096 1 := cmpf .ogt main_v13 main_v16
  let main_cst_4 : FVec F S_ .f32 := constant S_ .f32 0x3F800000#32
  fn_part1 (F := F) main_v13 main_v15 main_v17 main_cst_4
-- ==== Kernel.lean ====
abbrev S4096x64 : Shape := ⟨2, ![4096, 64]⟩
abbrev S1x1 : Shape := ⟨2, ![1, 1]⟩
abbrev S4096x66 : Shape := ⟨2, ![4096, 66]⟩
abbrev S3 : Shape := ⟨1, ![3]⟩
abbrev S2048x64 : Shape := ⟨2, ![2048, 64]⟩
abbrev S64 : Shape := ⟨1, ![64]⟩
abbrev S4096 : Shape := ⟨1, ![4096]⟩
abbrev S4096x1 : Shape := ⟨2, ![4096, 1]⟩
abbrev S2048 : Shape := ⟨1, ![2048]⟩
abbrev S2048x1 : Shape := ⟨2, ![2048, 1]⟩
abbrev S2048x66 : Shape := ⟨2, ![2048, 66]⟩
abbrev S2048x4096 : Shape := ⟨2, ![2048, 4096]⟩
abbrev S2048x128 : Shape := ⟨2, ![2048, 128]⟩
abbrev S1x2048 : Shape := ⟨2, ![1, 2048]⟩
abbrev S10x2048 : Shape := ⟨2, ![10, 2048]⟩
abbrev S1 : Shape := ⟨1, ![1]⟩

abbrev nBuf : Space → Nat
  | .hbm => 2
  | .vmem => 2
  | .smem => 2
  | _ => 0

abbrev bufTy : (tb : Table) → Fin (tcTables nBuf tb) → BufTy
  | .hbm, ⟨0, _⟩ => ⟨S4096x64, .f32⟩
  | .hbm, ⟨1, _⟩ => ⟨S1x1, .f32⟩
  | .local _ .vmem, ⟨0, _⟩ => ⟨S4096x64, .f32⟩
  | .local _ .vmem, ⟨1, _⟩ => ⟨S4096x66, .f32⟩
  | .local _ .smem, ⟨0, _⟩ => ⟨S1x1, .f32⟩
  | .local _ .smem, ⟨1, _⟩ => ⟨S3, .f32⟩
  | _, _ => ⟨S4096x64, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_scratch0 : Ref sig .tc := ⟨.vmem, 1, rfl⟩
abbrev cc0_stg1_0 : Ref sig .tc := ⟨.smem, 0, rfl⟩
abbrev cc0_scratch1 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c2048_i32 : BitVec 32 := 2048#32
  let v0 : BitVec 32 := Scalar.muli arg0 c2048_i32
  let v1 : Index := Scalar.indexCast v0
  let c0 : Index := 0#32
  ![v1.toNat, 0]
def k0_cond4 (i : grid0.Coords) : BitVec 1 :=
  let arg0 : BitVec 32 := BitVec.ofNat 32 (i 0).val
  let c1_i32 : BitVec 32 := 1#32
  let v246 : BitVec 1 := Scalar.cmpi .eq arg0 c1_i32
  let v247 : BitVec 32 := Scalar.extui v246
  let c0_i32_36 : BitVec 32 := 0#32
  let v248 : BitVec 1 := Scalar.cmpi .ne v247 c0_i32_36
  v248

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "log_n" => some ((Real.log 4096 : ℝ) : EReal)
  | "tenth" => some ((10⁻¹ : ℝ) : EReal)
  | _ => none
-- ==== ReferenceIdeal.lean ====
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩
abbrev S4096x11 : Shape := ⟨2, ![4096, 11]⟩
abbrev S4096x10 : Shape := ⟨2, ![4096, 10]⟩
abbrev S4096x10x1 : Shape := ⟨3, ![4096, 10, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S64x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .i1⟩
  | .hbm, ⟨21, _⟩ => ⟨S_, .f32⟩
  | .hbm, ⟨22, _⟩ => ⟨S4096x4096, .f32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x11, .f32⟩
  | .hbm, ⟨35, _⟩ => ⟨S4096x11, .i32⟩
  | .hbm, ⟨36, _⟩ => ⟨S4096x10, .i32⟩
  | .hbm, ⟨37, _⟩ => ⟨S_, .i32⟩
  | .hbm, ⟨38, _⟩ => ⟨S4096x10, .i32⟩
  | .hbm, ⟨39, _⟩ => ⟨S4096x10, .i1⟩
  | .hbm, ⟨40, _⟩ => ⟨S_, .i32⟩
  | .hbm, ⟨41, _⟩ => ⟨S4096x10, .i32⟩
  | .hbm, ⟨42, _⟩ => ⟨S4096x10, .i32⟩
  | .hbm, ⟨43, _⟩ => ⟨S4096x10, .i32⟩
  | .hbm, ⟨44, _⟩ => ⟨S4096x10x1, .i32⟩
  | .hbm, ⟨45, _⟩ => ⟨S1, .i32⟩
  | .hbm, ⟨46, _⟩ => ⟨S_, .i32⟩
  | .hbm, ⟨47, _⟩ => ⟨S4096x10x1, .i32⟩
  | .hbm, ⟨48, _⟩ => ⟨S4096x10x1, .i1⟩
  | .hbm, ⟨49, _⟩ => ⟨S1x1x1, .i32⟩
  | .hbm, ⟨50, _⟩ => ⟨S4096x10x1, .i32⟩
  | .hbm, ⟨51, _⟩ => ⟨S4096x10x1, .i1⟩
  | .hbm, ⟨52, _⟩ => ⟨S4096x10x1, .i1⟩
  | .hbm, ⟨53, _⟩ => ⟨S_, .i1⟩
  | .hbm, ⟨54, _⟩ => ⟨S4096x10, .i1⟩
  | .hbm, ⟨55, _⟩ => ⟨S4096x10, .f32⟩
  | .hbm, ⟨56, _⟩ => ⟨S_, .f32⟩
  | .hbm, ⟨57, _⟩ => ⟨S4096x10, .f32⟩
  | .hbm, ⟨58, _⟩ => ⟨S4096x10, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S_, .f32⟩
  | .hbm, ⟨74, _⟩ => ⟨S1, .f32⟩
  | .hbm, ⟨75, _⟩ => ⟨S4096, .f32⟩
  | .hbm, ⟨76, _⟩ => ⟨S4096, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S4096, .f32⟩
  | .hbm, ⟨84, _⟩ => ⟨S4096, .f32⟩
  | .hbm, ⟨85, _⟩ => ⟨S4096, .f32⟩
  | .hbm, ⟨86, _⟩ => ⟨S_, .f32⟩
  | .hbm, ⟨87, _⟩ => ⟨S_, .f32⟩
  | .hbm, ⟨88, _⟩ => ⟨S1x1, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_v21 : Ref sig .tc := ⟨.hbm, 33, rfl⟩
abbrev main_values : Ref sig .tc := ⟨.hbm, 34, rfl⟩
abbrev main_indices : Ref sig .tc := ⟨.hbm, 35, rfl⟩
abbrev main_v22 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v23 : Ref sig .tc := ⟨.hbm, 58, rfl⟩
abbrev main_cst_6 : Ref sig .tc := ⟨.hbm, 59, rfl⟩
abbrev main_v24 : Ref sig .tc := ⟨.hbm, 60, rfl⟩
abbrev main_cst_7 : Ref sig .tc := ⟨.hbm, 61, rfl⟩
abbrev main_v25 : Ref sig .tc := ⟨.hbm, 62, rfl⟩
abbrev main_v26 : Ref sig .tc := ⟨.hbm, 63, rfl⟩
abbrev main_cst_8 : Ref sig .tc := ⟨.hbm, 64, rfl⟩
abbrev main_v27 : Ref sig .tc := ⟨.hbm, 65, rfl⟩
abbrev main_cst_9 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_10 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_11 : Ref sig .tc := ⟨.hbm, 77, rfl⟩
abbrev main_v37 : Ref sig .tc := ⟨.hbm, 78, rfl⟩
abbrev main_cst_12 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_13 : Ref sig .tc := ⟨.hbm, 86, rfl⟩
abbrev main_v44 : Ref sig .tc := ⟨.hbm, 87, rfl⟩
abbrev main_v45 : Ref sig .tc := ⟨.hbm, 88, rfl⟩

abbrev nD : Nat := 1
abbrev τ : Topo := Topo.v7x

variable {F : FTy → Type} [FloatOps F]
-- ==== Proof.Rows.lean ====
/- One row of squared distances, as the kernel selects from it: the two smallest entries of every class of indices
   modulo 128, then eleven rounds, each taking the least of what is left. -/
module

public import Mathlib.Data.EReal.Basic
public import Mathlib.Data.Finset.Lattice.Fold
public import Mathlib.Data.Fintype.Basic
public import Mathlib.Tactic.Linarith

@[expose] public section

noncomputable section

namespace Cert.Rows

/-- The two smallest numbers so far, smaller first, once `x` has been seen as well. -/
def keep (p : EReal × EReal) (x : EReal) : EReal × EReal := (min p.1 x, min p.2 (max p.1 x))

/-- The two smallest of `s 0, …, s (n + 1)`, smaller first. -/
def two (s : ℕ → EReal) : ℕ → EReal × EReal
  | 0 => (min (s 0) (s 1), max (s 0) (s 1))
  | n + 1 => keep (two s n) (s (n + 2))

/-- `two` names two different entries, the first no larger than the second and the second no larger than any entry but
    the first. -/
theorem two_spec (s : ℕ → EReal) (n : ℕ) : ∃ p q, p < n + 2 ∧ q < n + 2 ∧ p ≠ q ∧ (two s n).1 = s p ∧ (two s n).2 = s q
    ∧ s p ≤ s q ∧ ∀ j, j < n + 2 → j ≠ p → s q ≤ s j := by
  induction n with
  | zero =>
    rcases le_total (s 0) (s 1) with h | h
    · refine ⟨0, 1, by omega, by omega, by omega, min_eq_left h, max_eq_right h, h, fun j hj hn => ?_⟩
      obtain rfl : j = 1 := by omega
      exact le_rfl
    · refine ⟨1, 0, by omega, by omega, by omega, min_eq_right h, max_eq_left h, h, fun j hj hn => ?_⟩
      obtain rfl : j = 0 := by omega
      exact le_rfl
  | succ n ih =>
    obtain ⟨p, q, hp, hq, hpq, h1, h2, hle, hall⟩ := ih
    have e1 : (two s (n + 1)).1 = min (s p) (s (n + 2)) := by rw [← h1]; rfl
    have e2 : (two s (n + 1)).2 = min (s q) (max (s p) (s (n + 2))) := by rw [← h1, ← h2]; rfl
    rcases lt_or_ge (s (n + 2)) (s p) with hx | hx
    · refine ⟨n + 2, p, by omega, by omega, by omega, ?_, ?_, hx.le, fun j hj hn => ?_⟩
      · rw [e1, min_eq_right hx.le]
      · rw [e2, max_eq_left hx.le, min_eq_right hle]
      · by_cases hjp : j = p
        · rw [hjp]
        · exact hle.trans (hall j (by omega) hjp)
    · rw [min_eq_left hx] at e1
      rw [max_eq_right hx] at e2
      rcases lt_or_ge (s (n + 2)) (s q) with hy | hy
      · refine ⟨p, n + 2, by omega, by omega, by omega, e1, by rw [e2, min_eq_right hy.le], hx, fun j hj hn => ?_⟩
        by_cases hjn : j = n + 2
        · rw [hjn]
        · exact hy.le.trans (hall j (by omega) hn)
      · refine ⟨p, q, by omega, by omega, hpq, e1, by rw [e2, min_eq_left hy], hle, fun j hj hn => ?_⟩
        by_cases hjn : j = n + 2
        · rw [hjn]; exact hy
        · exact hall j (by omega) hn

/-- The least of the 128 numbers a round looks at. -/
def least (g : Fin 128 → EReal) : EReal := Finset.univ.inf g

/-- One round: a class whose first number is the least moves its second number up and puts `big` behind it. -/
def oneRound (big : EReal) (p : (Fin 128 → EReal) × (Fin 128 → EReal)) : (Fin 128 → EReal) × (Fin 128 → EReal) :=
  (fun l => if p.1 l = least p.1 then p.2 l else p.1 l, fun l => if p.1 l = least p.1 then big else p.2 l)

/-- What `n` rounds leave. -/
def rounds (big : EReal) (p : (Fin 128 → EReal) × (Fin 128 → EReal)) : ℕ → (Fin 128 → EReal) × (Fin 128 → EReal)
  | 0 => p
  | n + 1 => oneRound big (rounds big p n)

/-- Entry `128 j + l` of a row, `j` counted modulo 32. -/
def entry (l : Fin 128) (j : ℕ) : Fin 4096 := ⟨128 * (j % 32) + l.val, by omega⟩

/-- The two smallest numbers of every class, the state before the first round. -/
def heads (f : Fin 4096 → EReal) : (Fin 128 → EReal) × (Fin 128 → EReal) :=
  (fun l => (two (fun j => f (entry l j)) 30).1, fun l => (two (fun j => f (entry l j)) 30).2)

/-- `y 0 < … < y 10` are the eleven smallest entries of the row `f`, all below `big`, and no class holds three entries
    up to `y 10`. -/
structure Nearest (f : Fin 4096 → EReal) (y : ℕ → EReal) (big : EReal) : Prop where
  bot : ⊥ < y 0
  lt : ∀ i < 10, y i < y (i + 1)
  mem : ∀ i ≤ 10, ∃ j, f j = y i
  first : ∀ j, y 0 ≤ f j
  gap : ∀ i < 10, ∀ j, y i < f j → y (i + 1) ≤ f j
  one : ∀ i < 10, ∀ j k, f j = y i → f k = y i → j = k
  few : ∀ l : Fin 128, ∀ j k n, j < 32 → k < 32 → n < 32 → j ≠ k → k ≠ n → j ≠ n →
    f (entry l j) ≤ y 10 → f (entry l k) ≤ y 10 → f (entry l n) ≤ y 10 → False
  big : y 10 < big

/-- A class's first number once everything up to `w` has been taken. -/
def headAbove (big w a b : EReal) : EReal := if w < a then a else if w < b then b else big

/-- A class's second number once everything up to `w` has been taken. -/
def nextAbove (big w a b : EReal) : EReal := if w < a then b else big

variable {f : Fin 4096 → EReal} {y : ℕ → EReal} {big : EReal}

/-- The state once everything up to `w` has been taken. -/
def above (f : Fin 4096 → EReal) (big w : EReal) : (Fin 128 → EReal) × (Fin 128 → EReal) :=
  (fun l => headAbove big w ((heads f).1 l) ((heads f).2 l), fun l => nextAbove big w ((heads f).1 l) ((heads f).2 l))

/-- Different places of a class are different entries. -/
theorem entry_inj {l : Fin 128} {j k : ℕ} (hj : j < 32) (hk : k < 32) (h : entry l j = entry l k) : j = k := by
  have := congrArg Fin.val h
  simp only [entry] at this
  omega

/-- Every entry is at one of its class's 32 places. -/
theorem exists_entry (j : Fin 4096) : ∃ l n, n < 32 ∧ entry l n = j :=
  ⟨⟨j.val % 128, by omega⟩, j.val / 128, by omega, Fin.ext (by simp only [entry]; omega)⟩

theorem Nearest.le_last (h : Nearest f y big) : ∀ k ≤ 10, y (10 - k) ≤ y 10 := by
  intro k hk
  induction k with
  | zero => exact le_rfl
  | succ k ih =>
    have := h.lt (10 - (k + 1)) (by omega)
    rw [show 10 - (k + 1) + 1 = 10 - k by omega] at this
    exact this.le.trans (ih (by omega))

theorem Nearest.le_ten (h : Nearest f y big) {i : ℕ} (hi : i ≤ 10) : y i ≤ y 10 := by
  have := h.le_last (10 - i) (by omega)
  rwa [show 10 - (10 - i) = i by omega] at this

/-- With everything up to `w` taken and `y i` the least entry above `w`, a round's least is `y i`. -/
theorem least_above (h : Nearest f y big) {i : ℕ} (hi : i ≤ 10) {w : EReal} (hw : w < y i)
    (hgap : ∀ j, w < f j → y i ≤ f j) : least (above f big w).1 = y i := by
  refine le_antisymm ?_ (Finset.le_inf fun l _ => ?_)
  · obtain ⟨j, hj⟩ := h.mem i hi
    obtain ⟨l, n, hn, rfl⟩ := exists_entry j
    refine (Finset.inf_le (Finset.mem_univ l)).trans ?_
    obtain ⟨p, q, hp, hq, hpq, h1, h2, hle, hall⟩ := two_spec (fun j => f (entry l j)) 30
    simp only [above, headAbove, heads, h1, h2]
    split_ifs with ha hb
    · by_cases hnp : n = p
      · rw [← hnp, hj]
      · exact hle.trans ((hall n hn hnp).trans hj.le)
    · have hnp : n ≠ p := by rintro rfl; exact ha (hj ▸ hw)
      exact (hall n hn hnp).trans hj.le
    · exfalso
      have hnp : n ≠ p := by rintro rfl; exact ha (hj ▸ hw)
      have hnq : n ≠ q := by rintro rfl; exact hb (hj ▸ hw)
      have hn10 : f (entry l n) ≤ y 10 := hj.le.trans (h.le_ten hi)
      have hq10 := (hall n hn hnp).trans hn10
      exact h.few l p q n hp hq hn hpq (Ne.symm hnq) (Ne.symm hnp) (hle.trans hq10) hq10 hn10
  · obtain ⟨p, q, hp, hq, hpq, h1, h2, hle, hall⟩ := two_spec (fun j => f (entry l j)) 30
    simp only [above, headAbove, heads, h1, h2]
    split_ifs with ha hb
    · exact hgap _ ha
    · exact hgap _ hb
    · exact (h.le_ten hi).trans h.big.le

/-- A round that takes the single entry `y i` leaves the state above `y i`. -/
theorem oneRound_above (h : Nearest f y big) {i : ℕ} (hi : i < 10) {w : EReal} (hw : w < y i)
    (hgap : ∀ j, w < f j → y i ≤ f j) : oneRound big (above f big w) = above f big (y i) := by
  have hv := least_above h hi.le hw hgap
  have hbig : y i < big := (h.le_ten hi.le).trans_lt h.big
  have key : ∀ l, (oneRound big (above f big w)).1 l = (above f big (y i)).1 l
      ∧ (oneRound big (above f big w)).2 l = (above f big (y i)).2 l := by
    intro l
    obtain ⟨p, q, hp, hq, hpq, h1, h2, hle, hall⟩ := two_spec (fun j => f (entry l j)) 30
    simp only [oneRound, hv]
    simp only [above, headAbove, nextAbove, heads, h1, h2]
    by_cases ha : w < f (entry l p)
    · have hb : w < f (entry l q) := ha.trans_le hle
      simp only [if_pos ha]
      rcases (hgap _ ha).eq_or_lt with e | e
      · have hne : y i ≠ f (entry l q) := fun e' =>
          hpq (entry_inj hp hq (h.one i hi _ _ e.symm e'.symm))
        have hlt : y i < f (entry l q) := lt_of_le_of_ne (e.le.trans hle) hne
        simp [← e, hlt]
      · simp [e, e.ne']
    · have hna : ¬ y i < f (entry l p) := fun e => ha (hw.trans e)
      simp only [if_neg ha, if_neg hna]
      by_cases hb : w < f (entry l q)
      · simp only [if_pos hb]
        rcases (hgap _ hb).eq_or_lt with e | e
        · simp [← e]
        · simp [e, e.ne']
      · have hnb : ¬ y i < f (entry l q) := fun e => hb (hw.trans e)
        simp [if_neg hb, if_neg hnb]
  exact Prod.ext (funext fun l => (key l).1) (funext fun l => (key l).2)

/-- Before the first round nothing has been taken. -/
theorem above_bot (h : Nearest f y big) : above f big ⊥ = heads f := by
  have hf : ∀ j, ⊥ < f j := fun j => h.bot.trans_le (h.first j)
  refine Prod.ext (funext fun l => ?_) (funext fun l => ?_)
  all_goals
    obtain ⟨p, q, hp, hq, hpq, h1, h2, hle, hall⟩ := two_spec (fun j => f (entry l j)) 30
    simp [above, headAbove, nextAbove, heads, h1, h2, hf]

/-- `n + 1 ≤ 10` rounds take `y 0, …, y n` and nothing else. -/
theorem rounds_eq (h : Nearest f y big) : ∀ n < 10, rounds big (heads f) (n + 1) = above f big (y n) := by
  intro n hn
  induction n with
  | zero =>
    rw [rounds, rounds, ← above_bot h]
    exact oneRound_above h hn h.bot fun j _ => h.first j
  | succ n ih =>
    rw [rounds, ih (by omega)]
    exact oneRound_above h hn (h.lt n (by omega)) (h.gap n (by omega))

/-- Round `i`, counted from 0, takes `y i`: the kernel's ten kept numbers are the second to the eleventh smallest. -/
theorem least_rounds (h : Nearest f y big) {i : ℕ} (hi : i < 10) : least (rounds big (heads f) (i + 1)).1 = y (i + 1) := by
  rw [rounds_eq h i hi]
  exact least_above h (by omega) (h.lt i hi) (h.gap i hi)

end Cert.Rows

end
-- ==== Proof.KernelSelect.lean ====
/- What one grid point computes from its block of squared distances: the two smallest entries of every class, the rounds,
   and the mean of the ten distances it keeps of each row. -/
module

public import proofs.«01_k».proof.Proof.Gen.KernelIdeal.Skeleton
public import proofs.«01_k».proof.Proof.Rows
public import Idealize.ShloMosaic.Lib.Pointwise

@[expose] public section

set_option maxRecDepth 16384

noncomputable section

namespace Cert.KernelIdeal.Select

open Cert.KernelIdeal Cert.KernelIdeal.Gen Idealize.ShloMosaic
open Cert.Rows

/-- The 128 columns from column `o` on, each counted modulo 4096. -/
def lane (e : FVec Ideal S2048x4096 .f32) (o : ℕ) : FVec Ideal S2048x128 .f32 :=
  fun i => e (ix2 (i 0) (Fin.ofNat 4096 (o + (i 1).val)))

/-- A slice of 128 columns is that lane. -/
theorem slice_eq (e : FVec Ideal S2048x4096 .f32) (o : ℕ) (h : S2048x4096.Slices ![0, o] S2048x128) :
    extractStridedSlice S2048x128 ![0, o] e h = lane e o := by
  funext i
  idx_vars i
  have hb : o + 128 ≤ 4096 := by simpa using h.2 1
  pointwise [lane]
  congr 1
  refine congrArg (ix2 i0) (Fin.ext ?_)
  simp [Nat.mod_eq_of_lt (show o + i1.val < 4096 by omega)]

/-- The block's two smallest numbers of every class among the first `n + 2` of it. -/
def pair (e : FVec Ideal S2048x4096 .f32) (n : ℕ) : FVec Ideal S2048x128 .f32 × FVec Ideal S2048x128 .f32 :=
  (fun i => (two (fun j => lane e (128 * j) i) n).1, fun i => (two (fun j => lane e (128 * j) i) n).2)

/-- The least number of every row. -/
def leastV (g : FVec Ideal S2048x128 .f32) : FVec Ideal S2048 .f32 :=
  multiReduction .minimumf [1] S2048 g 0x7F800000#32 reduces_S2048x128_S2048 (.inl rfl) rfl

/-- Where a row's number is `v`. -/
def maskV (g : FVec Ideal S2048x128 .f32) (v : FVec Ideal S2048 .f32) : IVec S2048x128 1 :=
  cmpf .oeq g (broadcastTo S2048x128 (shapeCast S2048x1 v shapeCasts_S2048_S2048x1) broadcasts_S2048x1_S2048x128)

/-- One round on a whole block. -/
def roundV (p : FVec Ideal S2048x128 .f32 × FVec Ideal S2048x128 .f32) :
    FVec Ideal S2048x128 .f32 × FVec Ideal S2048x128 .f32 :=
  (select (maskV p.1 (leastV p.1)) p.2 p.1,
    select (maskV p.1 (leastV p.1)) (broadcast S2048x128 (Scalar.ofBits (F := Ideal) .f32 0x7F7FC99E#32)) p.2)

/-- `n` rounds on a whole block. -/
def roundsV (p : FVec Ideal S2048x128 .f32 × FVec Ideal S2048x128 .f32) :
    ℕ → FVec Ideal S2048x128 .f32 × FVec Ideal S2048x128 .f32
  | 0 => p
  | n + 1 => roundV (roundsV p n)

/-- The first nine of every class. -/
theorem part1 (v2 : FVec Ideal S2048x64 .f32) (v12 : FVec Ideal S4096x66 .f32) :
    k0_pay22 (F := Ideal) v2 v12 = (pair (k0_pay5 v2 v12) 7).1
      ∧ k0_pay21 (F := Ideal) v2 v12 = (pair (k0_pay5 v2 v12) 7).2
      ∧ k0_pay23 (F := Ideal) v2 v12 = lane (k0_pay5 v2 v12) 1152 := by
  refine ⟨?_, ?_, ?_⟩
  · unfold_payloads; simp only [slice_eq]; rfl
  · unfold_payloads; simp only [slice_eq]; rfl
  · unfold_payloads; simp only [slice_eq]

/-- The first twenty-four of every class. -/
theorem part2 (e : FVec Ideal S2048x4096 .f32) :
    k0_pay53 e (pair e 7).1 (lane e 1152) = (pair e 22).1
      ∧ k0_pay52 e (pair e 7).2 (pair e 7).1 (lane e 1152) = (pair e 22).2
      ∧ k0_pay54 e = lane e 3072 := by
  refine ⟨?_, ?_, ?_⟩
  · unfold_payloads; simp only [slice_eq]; rfl
  · unfold_payloads; simp only [slice_eq]; rfl
  · unfold_payloads; simp only [slice_eq]

/-- All thirty-two of every class. -/
theorem part3 (e : FVec Ideal S2048x4096 .f32) :
    k0_pay70 e (pair e 22).1 (lane e 3072) = (pair e 30).1
      ∧ k0_pay69 e (pair e 22).2 (pair e 22).1 (lane e 3072) = (pair e 30).2 := by
  refine ⟨?_, ?_⟩
  · unfold_payloads; simp only [slice_eq]; rfl
  · unfold_payloads; simp only [slice_eq]; rfl

/-- The first three rounds, from the block's pairs. -/
theorem part3_rounds (e : FVec Ideal S2048x4096 .f32) (a b c : FVec Ideal S2048x128 .f32)
    (q : ℕ → FVec Ideal S2048x128 .f32 × FVec Ideal S2048x128 .f32) (hq : ∀ n, q (n + 1) = roundV (q n))
    (h1 : k0_pay70 e b c = (q 0).1) (h2 : k0_pay69 e a b c = (q 0).2) :
    k0_pay74 e a b c = leastV (q 1).1 ∧ k0_pay78 e a b c = leastV (q 2).1
      ∧ k0_pay82 e a b c = leastV (q 3).1
      ∧ k0_pay80 e a b c = (q 3).1 ∧ k0_pay81 e a b c = (q 3).2 := by
  have g1 : k0_pay72 e a b c = (q 1).1 := by unfold k0_pay72 k0_pay71; rw [h1, h2, show q 1 = roundV (q 0) from hq 0]; rfl
  have n1 : k0_pay73 e a b c = (q 1).2 := by unfold k0_pay73 k0_pay71; rw [h1, h2, show q 1 = roundV (q 0) from hq 0]; rfl
  have m1 : k0_pay74 e a b c = leastV (q 1).1 := by unfold k0_pay74; rw [g1]; rfl
  have g2 : k0_pay76 e a b c = (q 2).1 := by unfold k0_pay76 k0_pay75; rw [m1, g1, n1, show q 2 = roundV (q 1) from hq 1]; rfl
  have n2 : k0_pay77 e a b c = (q 2).2 := by unfold k0_pay77 k0_pay75; rw [m1, g1, n1, show q 2 = roundV (q 1) from hq 1]; rfl
  have m2 : k0_pay78 e a b c = leastV (q 2).1 := by unfold k0_pay78; rw [g2]; rfl
  have g3 : k0_pay80 e a b c = (q 3).1 := by unfold k0_pay80 k0_pay79; rw [m2, g2, n2, show q 3 = roundV (q 2) from hq 2]; rfl
  have n3 : k0_pay81 e a b c = (q 3).2 := by unfold k0_pay81 k0_pay79; rw [m2, g2, n2, show q 3 = roundV (q 2) from hq 2]; rfl
  have m3 : k0_pay82 e a b c = leastV (q 3).1 := by unfold k0_pay82; rw [g3]; rfl
  exact ⟨m1, m2, m3, g3, n3⟩

/-- Seven more rounds, from any state and its least numbers. -/
theorem part4_rounds (q : ℕ → FVec Ideal S2048x128 .f32 × FVec Ideal S2048x128 .f32)
    (hq : ∀ n, q (n + 1) = roundV (q n)) (p : FVec Ideal S2048x128 .f32 × FVec Ideal S2048x128 .f32) (hp : p = q 3) :
    k0_pay86 p.1 p.2 (leastV p.1) = leastV (q 4).1 ∧ k0_pay90 p.1 p.2 (leastV p.1) = leastV (q 5).1
      ∧ k0_pay94 p.1 p.2 (leastV p.1) = leastV (q 6).1 ∧ k0_pay98 p.1 p.2 (leastV p.1) = leastV (q 7).1
      ∧ k0_pay102 p.1 p.2 (leastV p.1) = leastV (q 8).1 ∧ k0_pay105 p.1 p.2 (leastV p.1) = leastV (q 9).1
      ∧ k0_pay106 p.1 p.2 (leastV p.1) = leastV (q 10).1 := by
  have g1 : k0_pay84 p.1 p.2 (leastV p.1) = (q 4).1 := by
    rw [hp, show q 4 = roundV (q 3) from hq 3]; rfl
  have n1 : k0_pay85 p.1 p.2 (leastV p.1) = (q 4).2 := by
    rw [hp, show q 4 = roundV (q 3) from hq 3]; rfl
  have m1 : k0_pay86 p.1 p.2 (leastV p.1) = leastV (q 4).1 := by unfold k0_pay86; rw [g1]; rfl
  have g2 : k0_pay88 p.1 p.2 (leastV p.1) = (q 5).1 := by unfold k0_pay88 k0_pay87; rw [m1, g1, n1, show q 5 = roundV (q 4) from hq 4]; rfl
  have n2 : k0_pay89 p.1 p.2 (leastV p.1) = (q 5).2 := by unfold k0_pay89 k0_pay87; rw [m1, g1, n1, show q 5 = roundV (q 4) from hq 4]; rfl
  have m2 : k0_pay90 p.1 p.2 (leastV p.1) = leastV (q 5).1 := by unfold k0_pay90; rw [g2]; rfl
  have g3 : k0_pay92 p.1 p.2 (leastV p.1) = (q 6).1 := by unfold k0_pay92 k0_pay91; rw [m2, g2, n2, show q 6 = roundV (q 5) from hq 5]; rfl
  have n3 : k0_pay93 p.1 p.2 (leastV p.1) = (q 6).2 := by unfold k0_pay93 k0_pay91; rw [m2, g2, n2, show q 6 = roundV (q 5) from hq 5]; rfl
  have m3 : k0_pay94 p.1 p.2 (leastV p.1) = leastV (q 6).1 := by unfold k0_pay94; rw [g3]; rfl
  have g4 : k0_pay96 p.1 p.2 (leastV p.1) = (q 7).1 := by unfold k0_pay96 k0_pay95; rw [m3, g3, n3, show q 7 = roundV (q 6) from hq 6]; rfl
  have n4 : k0_pay97 p.1 p.2 (leastV p.1) = (q 7).2 := by unfold k0_pay97 k0_pay95; rw [m3, g3, n3, show q 7 = roundV (q 6) from hq 6]; rfl
  have m4 : k0_pay98 p.1 p.2 (leastV p.1) = leastV (q 7).1 := by unfold k0_pay98; rw [g4]; rfl
  have g5 : k0_pay100 p.1 p.2 (leastV p.1) = (q 8).1 := by unfold k0_pay100 k0_pay99; rw [m4, g4, n4, show q 8 = roundV (q 7) from hq 7]; rfl
  have n5 : k0_pay101 p.1 p.2 (leastV p.1) = (q 8).2 := by unfold k0_pay101 k0_pay99; rw [m4, g4, n4, show q 8 = roundV (q 7) from hq 7]; rfl
  have m5 : k0_pay102 p.1 p.2 (leastV p.1) = leastV (q 8).1 := by unfold k0_pay102; rw [g5]; rfl
  have g6 : k0_pay104 p.1 p.2 (leastV p.1) = (q 9).1 := by unfold k0_pay104 k0_pay103; rw [m5, g5, n5, show q 9 = roundV (q 8) from hq 8]; rfl
  have m6 : k0_pay105 p.1 p.2 (leastV p.1) = leastV (q 9).1 := by unfold k0_pay105; rw [g6]; rfl
  refine ⟨m1, m2, m3, m4, m5, m6, ?_⟩
  unfold k0_pay106 k0_pay103
  rw [m6, g6, m5, g5, n5, show q 10 = roundV (q 9) from hq 9, show q 9 = roundV (q 8) from hq 8]
  rfl

/-- What round `n` of one grid point keeps of every row, from its block of squared distances. -/
def kept (e : FVec Ideal S2048x4096 .f32) (n : ℕ) : FVec Ideal S2048 .f32 := leastV (roundsV (pair e 30) n).1

/-- The mean of the ten kept distances of every row. -/
def meanV (e : FVec Ideal S2048x4096 .f32) : FVec Ideal S2048 .f32 :=
  k0_pay107 (kept e 1) (kept e 2) (kept e 3) (kept e 4) (kept e 5) (kept e 6) (kept e 7) (kept e 8) (kept e 9) (kept e 10)

end Cert.KernelIdeal.Select

end
-- ==== Proof.Consts.lean ====
/- The constants the programs print, as extended reals. -/
module

public import Idealize.ShloMosaic.Lib.Pointwise
public import Idealize.ShloMosaic.Lib.IdealHost

@[expose] public section

namespace Cert.Consts

open Idealize.ShloMosaic

/-- Plus infinity. -/
theorem top : Ideal.ofBits .f32 0x7F800000#32 = ⊤ := by simp [Ideal.ofBits, Ideal.ieee]

/-- Minus infinity. -/
theorem bot : Ideal.ofBits .f32 0xFF800000#32 = ⊥ := by simp [Ideal.ofBits, Ideal.ieee]

/-- Two. -/
theorem two : Ideal.ofBits .f32 0x40000000#32 = ((2 : ℝ) : EReal) := by
  simp [Ideal.ofBits, Ideal.ieee, -EReal.coe_mul]
  norm_num

/-- Minus two. -/
theorem neg_two : Ideal.ofBits .f32 0xC0000000#32 = ((-2 : ℝ) : EReal) := by
  simp [Ideal.ofBits, Ideal.ieee, -EReal.coe_mul, -EReal.coe_neg]; norm_num

/-- Ten, the number of neighbours. -/
theorem ten : Ideal.ofBits .f32 0x41200000#32 = ((10 : ℝ) : EReal) := by
  simp [Ideal.ofBits, Ideal.ieee, -EReal.coe_mul]
  norm_num

/-- 4096, the number of points. -/
theorem points : Ideal.ofBits .f32 0x45800000#32 = ((4096 : ℝ) : EReal) := by
  simp [Ideal.ofBits, Ideal.ieee, -EReal.coe_mul]
  norm_num

/-- The number that marks a taken entry is above `1e38`. -/
theorem big : ((10 ^ 38 : ℝ) : EReal) < Ideal.ofBits .f32 0x7F7FC99E#32 := by
  simp [Ideal.ofBits, Ideal.ieee, -EReal.coe_mul, -EReal.coe_pow]; norm_num

/-- The bound on the distances is at most `1e19`. -/
theorem near : ((-10 ^ 19 : ℝ) : EReal) ≤ Ideal.ofBits .f32 0xDF0AC723#32 := by
  simp [Ideal.ofBits, Ideal.ieee, -EReal.coe_mul, -EReal.coe_neg, -EReal.coe_pow]; norm_num

end Cert.Consts
-- ==== Proof.KernelRows.lean ====
/- One grid point read row by row: its rounds are the rounds of every row, and its mean is the mean of the ten kept
   distances. -/
module

public import proofs.«01_k».proof.Proof.KernelSelect
public import proofs.«01_k».proof.Proof.Consts

@[expose] public section

set_option maxRecDepth 16384

noncomputable section

namespace Cert.KernelIdeal.Select

open Cert.KernelIdeal Cert.KernelIdeal.Gen Idealize.ShloMosaic
open Cert.Rows

/-- The number a taken entry is overwritten by. -/
def big : EReal := Ideal.ofBits .f32 0x7F7FC99E#32

/-- One row of a state. -/
def rowOf (p : FVec Ideal S2048x128 .f32 × FVec Ideal S2048x128 .f32) (r : Fin 2048) :
    (Fin 128 → EReal) × (Fin 128 → EReal) :=
  (fun l => p.1 (ix2 r l), fun l => p.2 (ix2 r l))

theorem leastV_apply (g : FVec Ideal S2048x128 .f32) (r : Fin 2048) : leastV g (ix1 r) = least fun l => g (ix2 r l) := by
  pointwise [leastV, least]
  rw [Consts.top]
  rfl

theorem maskV_apply (g : FVec Ideal S2048x128 .f32) (v : FVec Ideal S2048 .f32) (r : Fin 2048) (l : Fin 128) :
    maskV g v (ix2 r l) = if g (ix2 r l) = v (ix1 r) then 1#1 else 0#1 := by
  pointwise [maskV]
  split_ifs with h <;> simp [h]

theorem roundV_row (p : FVec Ideal S2048x128 .f32 × FVec Ideal S2048x128 .f32) (r : Fin 2048) :
    rowOf (roundV p) r = oneRound big (rowOf p r) := by
  refine Prod.ext (funext fun l => ?_) (funext fun l => ?_)
  · simp only [rowOf, roundV, oneRound, select, Scalar.select, maskV_apply, leastV_apply]
    split_ifs <;> simp_all
  · simp only [rowOf, roundV, oneRound, select, Scalar.select, maskV_apply, leastV_apply]
    split_ifs <;> simp_all <;> rfl

theorem roundsV_row (p : FVec Ideal S2048x128 .f32 × FVec Ideal S2048x128 .f32) (r : Fin 2048) (n : ℕ) :
    rowOf (roundsV p n) r = rounds big (rowOf p r) n := by
  induction n with
  | zero => rfl
  | succ n ih => rw [rounds, ← ih]; exact roundV_row _ r

theorem pair_row (e : FVec Ideal S2048x4096 .f32) (r : Fin 2048) : rowOf (pair e 30) r = heads fun j => e (ix2 r j) := by
  have h : ∀ l : Fin 128, (fun j => lane e (128 * j) (ix2 r l)) = fun j => e (ix2 r (entry l j)) := by
    intro l
    funext j
    refine congrArg (fun k => e (ix2 r k)) (Fin.ext ?_)
    simp [entry]
    omega
  refine Prod.ext (funext fun l => ?_) (funext fun l => ?_)
  · simp only [rowOf, pair, heads, h]
  · simp only [rowOf, pair, heads, h]

/-- Round `n` of a grid point keeps of every row what round `n` of the row keeps. -/
theorem kept_apply (e : FVec Ideal S2048x4096 .f32) (n : ℕ) (r : Fin 2048) :
    kept e n (ix1 r) = least (rounds big (heads fun j => e (ix2 r j)) n).1 := by
  rw [kept, leastV_apply, ← pair_row, ← roundsV_row]
  rfl

/-- The mean of the ten kept distances. -/
theorem meanV_apply (e : FVec Ideal S2048x4096 .f32) (r : Fin 2048) :
    meanV e (ix1 r) = (∑ i : Fin 10, Ideal.sqrt (max (kept e (i.val + 1) (ix1 r)) 0)) * ((10⁻¹ : ℝ) : EReal) := by
  pointwise [meanV, k0_pay107]
  simp [Fin.sum_univ_succ]
  rfl

end Cert.KernelIdeal.Select

end
-- ==== Proof.Reals.lean ====
/- Sums and maxima of real numbers, taken among the extended reals. -/
module

public import Idealize.ShloMosaic.Lib.Pointwise

@[expose] public section

namespace Cert.Reals

/-- A sum of reals is the sum of them as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, one at least, is a real. -/
theorem exists_max {n : ℕ} (f : Fin (n + 1) → ℝ) :
    ∃ c : ℝ, Finset.univ.fold max (⊥ : EReal) (fun i => ((f i : ℝ) : EReal)) = (c : EReal) := by
  obtain ⟨i, -, hi⟩ := Finset.exists_max_image Finset.univ f ⟨0, Finset.mem_univ _⟩
  refine ⟨f i, le_antisymm ?_ ?_⟩
  · rw [Finset.fold_max_le]
    exact ⟨bot_le, fun j hj => EReal.coe_le_coe_iff.mpr (hi j hj)⟩
  · rw [Finset.le_fold_max]
    exact Or.inr ⟨i, Finset.mem_univ _, le_rfl⟩

end Cert.Reals
-- ==== Proof.KernelDist.lean ====
/- The block of squared distances of one grid point: the kernel's single product of augmented rows. -/
module

public import proofs.«01_k».proof.Proof.Gen.KernelIdeal.Skeleton
public import proofs.«01_k».proof.Proof.Consts
public import proofs.«01_k».proof.Proof.Reals
public import Idealize.ShloMosaic.Lib.Pointwise

@[expose] public section

set_option maxRecDepth 16384

noncomputable section

namespace Cert

/-- The squared distance of points `r` and `c`. -/
def sqDist (X : Fin 4096 → Fin 64 → ℝ) (r c : Fin 4096) : ℝ := ∑ k, (X r k - X c k) ^ 2

theorem sqDist_nonneg (X : Fin 4096 → Fin 64 → ℝ) (r c : Fin 4096) : 0 ≤ sqDist X r c :=
  Finset.sum_nonneg fun _ _ => sq_nonneg _

namespace KernelIdeal.Dist

open Cert.KernelIdeal Cert.KernelIdeal.Gen Idealize.ShloMosaic

/-- The array of real points. -/
def pts (X : Fin 4096 → Fin 64 → ℝ) : FVec Ideal S4096x64 .f32 := fun i => ((X (i 0) (i 1) : ℝ) : EReal)

/-- The rows of points one grid point takes. -/
def rows (X : Fin 4096 → Fin 64 → ℝ) (R : Fin 2048 → Fin 4096) : FVec Ideal S2048x64 .f32 :=
  fun i => ((X (R (i 0)) (i 1) : ℝ) : EReal)

/-- The augmented columns: the points times minus two, then their squared lengths, then ones. -/
def aug (x : FVec Ideal S4096x64 .f32) : FVec Ideal S4096x66 .f32 := fun i =>
  if h : (i 1).val < 64 then k0_pay2 (F := Ideal) x (ix2 (i 0) ⟨(i 1).val, h⟩)
  else if (i 1).val < 65 then k0_pay3 (F := Ideal) x (ix2 (i 0) 0) else k0_pay4 (F := Ideal) (ix2 (i 0) 0)

/-- The product of augmented rows is the squared distance. -/
theorem dist_apply (X : Fin 4096 → Fin 64 → ℝ) (R : Fin 2048 → Fin 4096) (r : Fin 2048) (c : Fin 4096) :
    k0_pay5 (F := Ideal) (rows X R) (aug (pts X)) (ix2 r c) = ((sqDist X (R r) c : ℝ) : EReal) := by
  pointwise [k0_pay5, k0_pay1, k0_pay2, k0_pay3, k0_pay4, aug, rows, pts]
  rw [Fin.sum_univ_castSucc, Fin.sum_univ_castSucc, Consts.neg_two]
  simp only [Fin.val_castSucc, Fin.is_lt, Fin.val_last, dite_true, Nat.lt_irrefl, dite_false, Nat.sub_self,
    Nat.reduceLT, Nat.reduceSub, Nat.one_pos, if_true, if_false, Fin.eta, one_mul, mul_one]
  have hs : ∀ p : Fin 4096, (∑ k, ((X p k : ℝ) : EReal) * ((X p k : ℝ) : EReal)) = ((∑ k, X p k * X p k : ℝ) : EReal) := by
    intro p
    simp only [← EReal.coe_mul, Reals.coe_sum]
  have hd : (∑ k : Fin 64, ((X (R r) k : ℝ) : EReal) * (((X c k : ℝ) : EReal) * ((-2 : ℝ) : EReal)))
      = ((∑ k, X (R r) k * (X c k * -2) : ℝ) : EReal) := by
    simp only [← EReal.coe_mul, Reals.coe_sum]
  rw [hs, hs, hd, ← EReal.coe_add, ← EReal.coe_add, EReal.coe_eq_coe_iff, sqDist, ← Finset.sum_add_distrib,
    ← Finset.sum_add_distrib]
  exact Finset.sum_congr rfl fun k _ => by ring

end KernelIdeal.Dist

end Cert

end
-- ==== Proof.Loss.lean ====
/- The loss as a function of the 4096 mean distances: in one pass, in two blocks with a running maximum, and as the
   reference writes it. -/
module

public import Mathlib.Analysis.SpecialFunctions.Log.Basic
public import Mathlib.Data.EReal.Basic
public import Mathlib.Tactic.Linarith
public import Mathlib.Tactic.FieldSimp
public import Mathlib.Tactic.Ring

@[expose] public section

noncomputable section

namespace Cert.Loss

open Real

/-- The loss of the mean distances `m`: the logarithm of the sum of their exponentials, less their mean, less the
    logarithm of their number. -/
def loss (m : Fin 4096 → ℝ) : ℝ := log (∑ r, exp (m r)) - (∑ r, m r) * 4096⁻¹ - log 4096

/-- A sum of exponentials over a nonempty type is positive. -/
theorem sum_exp_pos {ι : Type} [Fintype ι] [Nonempty ι] (m : ι → ℝ) : 0 < ∑ r, exp (m r) :=
  Finset.sum_pos (fun _ _ => exp_pos _) Finset.univ_nonempty

/-- Exponentials taken relative to `c` and brought back. -/
theorem sum_exp_sub {ι : Type} [Fintype ι] (m : ι → ℝ) (c d : ℝ) :
    (∑ r, exp (m r - c)) * exp (c - d) = (∑ r, exp (m r)) * exp (-d) := by
  rw [Finset.sum_mul, Finset.sum_mul]
  refine Finset.sum_congr rfl fun r _ => ?_
  rw [← exp_add, ← exp_add]
  congr 1
  ring

/-- Two blocks' sums of exponentials, each relative to its own number and combined relative to a third. -/
theorem two_blocks {ι : Type} [Fintype ι] [Nonempty ι] (m₀ m₁ : ι → ℝ) (c₀ c₁ c : ℝ) :
    c + log ((∑ r, exp (m₀ r - c₀)) * exp (c₀ - c) + (∑ r, exp (m₁ r - c₁)) * exp (c₁ - c))
      = log (∑ r, exp (m₀ r) + ∑ r, exp (m₁ r)) := by
  rw [sum_exp_sub, sum_exp_sub, ← add_mul,
    log_mul (add_pos (sum_exp_pos _) (sum_exp_pos _)).ne' (exp_pos _).ne', log_exp]
  ring

/-- The reference's sum: the divergence of the softmax of `m`, taken relative to any number `c`, from the uniform
    distribution. -/
theorem divergence (m : Fin 4096 → ℝ) (c : ℝ) :
    ∑ r, (4096⁻¹ : ℝ) * (log 4096⁻¹ - log (exp (m r - c) * (∑ r, exp (m r - c))⁻¹)) = loss m := by
  have hs : 0 < ∑ r, exp (m r - c) := sum_exp_pos fun r => m r - c
  have e : ∑ r, exp (m r - c) = (∑ r, exp (m r)) * exp (-c) := by
    have := sum_exp_sub m c c
    simpa using this
  have h : ∀ r, log (exp (m r - c) * (∑ r, exp (m r - c))⁻¹) = m r - log (∑ r, exp (m r)) := by
    intro r
    rw [log_mul (exp_pos _).ne' (inv_pos.mpr hs).ne', log_exp, log_inv, e,
      log_mul (sum_exp_pos _).ne' (exp_pos _).ne', log_exp]
    ring
  simp only [h, log_inv]
  rw [← Finset.mul_sum, Finset.sum_sub_distrib, Finset.sum_sub_distrib]
  simp only [Finset.sum_const, Finset.card_univ, Fintype.card_fin, nsmul_eq_mul]
  unfold loss
  push_cast
  ring

end Cert.Loss

end
-- ==== Proof.KernelLoss.lean ====
/- The running maximum, sum of exponentials and sum of the two grid points' mean distances, and the loss they end in. -/
module

public import proofs.«01_k».proof.Proof.Gen.KernelIdeal.Skeleton
public import proofs.«01_k».proof.Proof.Consts
public import proofs.«01_k».proof.Proof.Reals
public import proofs.«01_k».proof.Proof.Loss
public import Idealize.ShloMosaic.Lib.Pointwise

@[expose] public section

set_option maxRecDepth 16384

noncomputable section

namespace Cert.KernelIdeal.Stats

open Cert.KernelIdeal Cert.KernelIdeal.Gen Idealize.ShloMosaic

/-- The largest of a grid point's means. -/
def maxOf (m : FVec Ideal S2048 .f32) : Ideal .f32 :=
  extractAt ![0, 0] (shapeCast S1x1 (multiReduction .maximumf [1] S1 (shapeCast S1x2048 m shapeCasts_S2048_S1x2048)
    0xFF800000#32 reduces_S1x2048_S1 (.inl rfl) rfl) shapeCasts_S1_S1x1) inpos_S1x1_p0_0

/-- The sum of a grid point's row of numbers. -/
def sumOf (m : FVec Ideal S2048 .f32) : Ideal .f32 :=
  extractAt ![0, 0] (shapeCast S1x1 (multiReduction .add [1] S1 (shapeCast S1x2048 m shapeCasts_S2048_S1x2048)
    0x00000000#32 reduces_S1x2048_S1 (.inl rfl) rfl) shapeCasts_S1_S1x1) inpos_S1x1_p0_0

/-- The sum of the exponentials of a grid point's means less their largest. -/
def expOf (m : FVec Ideal S2048 .f32) : Ideal .f32 := sumOf (exp (subf m (broadcast S2048 (maxOf m))))

/-- The larger of two grid points' maxima. -/
def max2 (a b : Ideal .f32) : Ideal .f32 := Scalar.maximumf a b

/-- Two grid points' sums of exponentials brought to the larger maximum. -/
def exp2 (a s b t : Ideal .f32) : Ideal .f32 :=
  Scalar.addf (Scalar.mulf s (Scalar.exp (Scalar.subf a (max2 a b)))) (Scalar.mulf t (Scalar.exp (Scalar.subf b (max2 a b))))

/-- What the second grid point writes, from both points' means. -/
def lossOf (m₀ m₁ : FVec Ideal S2048 .f32) : Ideal .f32 :=
  k0_pay114 (max2 (maxOf m₀) (maxOf m₁)) (exp2 (maxOf m₀) (expOf m₀) (maxOf m₁) (expOf m₁))
    (Scalar.addf (sumOf m₀) (sumOf m₁))

/-- A vector of real means. -/
def means (M : Fin 2048 → ℝ) : FVec Ideal S2048 .f32 := fun i => ((M (i 0) : ℝ) : EReal)

theorem maxOf_means (M : Fin 2048 → ℝ) : ∃ c : ℝ, maxOf (means M) = ((c : ℝ) : EReal) := by
  obtain ⟨c, hc⟩ := Reals.exists_max (n := 2047) M
  refine ⟨c, ?_⟩
  pointwise [maxOf, means]
  rw [Consts.bot]
  exact hc

theorem sumOf_means (M : Fin 2048 → ℝ) : sumOf (means M) = ((∑ r, M r : ℝ) : EReal) := by
  pointwise [sumOf, means]
  rw [Reals.coe_sum]

theorem expOf_means (M : Fin 2048 → ℝ) (c : ℝ) (h : maxOf (means M) = ((c : ℝ) : EReal)) :
    expOf (means M) = ((∑ r, Real.exp (M r - c) : ℝ) : EReal) := by
  have e : exp (subf (means M) (broadcast S2048 (maxOf (means M)))) = means fun r => Real.exp (M r - c) := by
    funext i
    idx_vars i
    pointwise [h, means]
    rw [← EReal.coe_sub]
    rfl
  rw [expOf, e, sumOf_means]

/-- The first and the second grid point's rows. -/
def row₀ (r : Fin 2048) : Fin 4096 := ⟨r.val, by omega⟩

@[inherit_doc row₀]
def row₁ (r : Fin 2048) : Fin 4096 := ⟨2048 + r.val, by omega⟩

/-- A sum over all rows, grid point by grid point. -/
theorem sum_rows (f : Fin 4096 → ℝ) : ∑ r, f r = ∑ r, f (row₀ r) + ∑ r, f (row₁ r) :=
  Fin.sum_univ_add (a := 2048) (b := 2048) f

/-- What the second grid point writes is the loss of all means. -/
theorem lossOf_means (M : Fin 4096 → ℝ) :
    lossOf (means fun r => M (row₀ r)) (means fun r => M (row₁ r)) = ((Loss.loss M : ℝ) : EReal) := by
  obtain ⟨a, ha⟩ := maxOf_means fun r => M (row₀ r)
  obtain ⟨b, hb⟩ := maxOf_means fun r => M (row₁ r)
  unfold lossOf
  rw [expOf_means _ a ha, expOf_means _ b hb, ha, hb, sumOf_means, sumOf_means]
  have hm : max2 ((a : ℝ) : EReal) ((b : ℝ) : EReal) = ((max a b : ℝ) : EReal) :=
    (EReal.coe_strictMono.monotone.map_max (a := a) (b := b)).symm
  have he : ∀ s t : ℝ, exp2 ((a : ℝ) : EReal) ((s : ℝ) : EReal) ((b : ℝ) : EReal) ((t : ℝ) : EReal)
      = ((s * Real.exp (a - max a b) + t * Real.exp (b - max a b) : ℝ) : EReal) := by
    intro s t
    unfold exp2
    rw [hm, EReal.coe_add, EReal.coe_mul, EReal.coe_mul]
    rfl
  have hp : ∀ u v w : ℝ, 0 < v → k0_pay114 (F := Ideal) ((u : ℝ) : EReal) ((v : ℝ) : EReal) ((w : ℝ) : EReal)
      = ((u + Real.log v - w * 4096⁻¹ - Real.log 4096 : ℝ) : EReal) := by
    intro u v w hv
    pointwise [k0_pay114]
    rw [Consts.points, Ideal.div_coe (by norm_num), show Scalar.log (F := Ideal) (φ := .f32) ((v : ℝ) : EReal)
      = ((Real.log v : ℝ) : EReal) from if_neg (not_le.mpr hv), one_div, ← EReal.coe_mul, ← EReal.coe_add, ← EReal.coe_sub,
      EReal.coe_sub _ (Real.log 4096)]
    rfl
  rw [hm, he, show Scalar.addf (F := Ideal) (φ := .f32) ((∑ r, M (row₀ r) : ℝ) : EReal) ((∑ r, M (row₁ r) : ℝ) : EReal)
    = ((∑ r, M r : ℝ) : EReal) by rw [sum_rows, EReal.coe_add]; rfl, hp]
  · rw [Loss.two_blocks, Loss.loss, sum_rows fun r => Real.exp (M r)]
  · exact add_pos (mul_pos (Loss.sum_exp_pos fun r => M (row₀ r) - a) (Real.exp_pos _))
      (mul_pos (Loss.sum_exp_pos fun r => M (row₁ r) - b) (Real.exp_pos _))

end Cert.KernelIdeal.Stats

end
-- ==== Proof.KernelValue.lean ====
/- What the kernel's result array holds after a run. -/
module

public import proofs.«01_k».proof.Proof.Gen.KernelIdeal.Value
public import proofs.«01_k».proof.Proof.KernelRows
public import proofs.«01_k».proof.Proof.KernelDist
public import proofs.«01_k».proof.Proof.KernelLoss
public import Idealize.ShloMosaic.Lib.Pipeline.ValueKit

@[expose] public section

set_option maxRecDepth 16384

noncomputable section

namespace Cert.KernelIdeal.Final

open Cert.KernelIdeal Cert.KernelIdeal.Gen Idealize.ShloMosaic Idealize.ShloMosaic.TcCoe
open Idealize.ShloMosaic.Pipeline (Dat)
open Dist Select Stats

theorem hz : (![0, 0] : Fin 2 → Nat) = fun _ => 0 := by decide

/-- The rows grid point `i` takes of the points. -/
def take (i : grid0.Coords) (x : FVec Ideal S4096x64 .f32) : FVec Ideal S2048x64 .f32 :=
  View.ld (Val := Elt Ideal) (e' := .f32) x (Rect.unit (s := S4096x64) (k0_off1 i) S2048x64.size (k0_off1_inb i))

/-- A grid point's means, from the points and the augmented columns. -/
def meansOf (i : grid0.Coords) (x : FVec Ideal S4096x64 .f32) (g : FVec Ideal S4096x66 .f32) : FVec Ideal S2048 .f32 :=
  meanV (k0_pay5 (take i x) g)

/-- The kernel's steps, one after the other, keep of every row what ten rounds keep. -/
theorem kept_steps (y : FVec Ideal S2048x64 .f32) (g : FVec Ideal S4096x66 .f32)
    {e : FVec Ideal S2048x4096 .f32} {a b l a' b' l' p q : FVec Ideal S2048x128 .f32}
    {m₁ m₂ m₃ m₄ m₅ m₆ m₇ m₈ m₉ m₁₀ : FVec Ideal S2048 .f32}
    (he : e = k0_pay5 y g) (hb : b = k0_pay21 y g) (ha : a = k0_pay22 y g) (hl : l = k0_pay23 y g)
    (hb' : b' = k0_pay52 e b a l) (ha' : a' = k0_pay53 e a l) (hl' : l' = k0_pay54 e)
    (h₁ : m₁ = k0_pay74 e b' a' l') (h₂ : m₂ = k0_pay78 e b' a' l') (h₃ : m₃ = k0_pay82 e b' a' l')
    (hp : p = k0_pay80 e b' a' l') (hq : q = k0_pay81 e b' a' l')
    (h₄ : m₄ = k0_pay86 p q m₃) (h₅ : m₅ = k0_pay90 p q m₃) (h₆ : m₆ = k0_pay94 p q m₃) (h₇ : m₇ = k0_pay98 p q m₃)
    (h₈ : m₈ = k0_pay102 p q m₃) (h₉ : m₉ = k0_pay105 p q m₃) (h₁₀ : m₁₀ = k0_pay106 p q m₃) :
    k0_pay107 m₁ m₂ m₃ m₄ m₅ m₆ m₇ m₈ m₉ m₁₀ = meanV (k0_pay5 y g) := by
  obtain ⟨f1, f2, f3⟩ := part1 y g
  obtain ⟨s1, s2, s3⟩ := part2 e
  obtain ⟨t1, t2⟩ := part3 e
  subst he
  rw [f1] at ha; rw [f2] at hb; rw [f3] at hl
  rw [ha, hb, hl] at hb'; rw [ha, hl] at ha'
  rw [s1] at ha'; rw [s2] at hb'; rw [s3] at hl'
  subst ha' hb' hl'
  obtain ⟨r1, r2, r3, rp, rq⟩ := part3_rounds _ _ _ _ (roundsV (pair (k0_pay5 y g) 30)) (fun _ => rfl) t1 t2
  obtain ⟨u4, u5, u6, u7, u8, u9, u10⟩ := part4_rounds (roundsV (pair (k0_pay5 y g) 30)) (fun _ => rfl) _ rfl
  rw [r1] at h₁; rw [r2] at h₂; rw [r3] at h₃; rw [rp] at hp; rw [rq] at hq
  subst hp hq h₃
  rw [u4] at h₄; rw [u5] at h₅; rw [u6] at h₆; rw [u7] at h₇; rw [u8] at h₈; rw [u9] at h₉; rw [u10] at h₁₀
  subst h₁ h₂ h₄ h₅ h₆ h₇ h₈ h₉ h₁₀
  rfl

/-- The three stores of augmented columns, the last first. -/
def augStores (x : FVec Ideal S4096x64 .f32) : List (View.Piece (Elt Ideal) S4096x66 .f32) :=
  [⟨Rect.unit (s := S4096x66) ![0, 65] S4096x1.size inb_S4096x66_S4096x1_0_65, k0_pay4 (F := Ideal)⟩,
   ⟨Rect.unit (s := S4096x66) ![0, 64] S4096x1.size inb_S4096x66_S4096x1_0_64, k0_pay3 (F := Ideal) x⟩,
   ⟨Rect.unit (s := S4096x66) ![0, 0] S4096x64.size inb_S4096x66_S4096x64_0_0, k0_pay2 (F := Ideal) x⟩]

/-- What the run stores there. -/
theorem stores_eq (c : Dev nD) (a1 : Memref sig .tc .vmem S4096x64 .f32) (h1 : a1.IsWhole) (x : Vec Ideal S4096x64 .f32) :
    kernelRun0_A.sl.HS0_3 (F := Ideal) c a1 h1 x = augStores x := by
  have hx : View.readAt (Elt Ideal) a1.view (Rect.unit (s := S4096x64) ![0, 0] S4096x64.size
      inb_S4096x64_S4096x64_0_0).toLoadRect (h1.unread x) = x := by
    rw [View.readAt_eq_ld, h1.read_unread, View.ld_unit_zero (S := S4096x64) hz]
  exact (show _ = augStores _ from rfl).trans (congrArg augStores hx)

/-- The three stores together are the augmented columns. -/
theorem canon_aug (c : Dev nD) (i : grid0.Coords)
    (a1 : Memref sig .tc .vmem S4096x64 .f32) (h1 : a1.IsWhole)
    (a2 : Memref sig .tc .smem S1x1 .f32) (h2 : a2.IsWhole) (a3 : Memref sig .tc .vmem S4096x66 .f32) (h3 : a3.IsWhole)
    (a4 : Memref sig .tc .smem S3 .f32) (h4 : a4.IsWhole) (c0 : cond0_0 i) (c1 : cond0_1 i) (c2 : ¬cond0_2 i)
    (c3 : ¬cond0_3 i) (x : Vec Ideal S4096x64 .f32) :
    View.canon (augStores x) = aug x := by
  have hc := scover0_A_0 c i a1 h1 a2 h2 a3 h3 a4 h4 c0 c1 c2 c3 x
  unfold kernelRun0_A at hc
  dsimp only at hc
  rw [stores_eq] at hc
  funext j
  idx_vars j
  unfold augStores at hc ⊢
  canon_tiles y hy using hc _
  all_goals
    idx_vars y
    obtain rfl : j0 = y0 := Fin.ext hy0
    replace hy1 : j1.val = _ := hy1
  · have hy : y1 = 0 := Subsingleton.elim _ _
    subst hy
    simp [aug, hy1]
  · have hy : y1 = 0 := Subsingleton.elim _ _
    subst hy
    simp [aug, hy1]
  · have e : j1 = ⟨y1.val, by omega⟩ := Fin.ext hy1
    rw [e]
    simp [aug]

/-- The first grid point leaves the augmented columns in its scratch array. -/
theorem sout_A0 (c : Dev nD) (i : grid0.Coords)
    (a1 : Memref sig .tc .vmem S4096x64 .f32) (h1 : a1.IsWhole)
    (a2 : Memref sig .tc .smem S1x1 .f32) (h2 : a2.IsWhole) (a3 : Memref sig .tc .vmem S4096x66 .f32) (h3 : a3.IsWhole)
    (a4 : Memref sig .tc .smem S3 .f32) (h4 : a4.IsWhole) (c0 : cond0_0 i) (c1 : cond0_1 i) (c2 : ¬cond0_2 i)
    (c3 : ¬cond0_3 i) (x : Vec Ideal S4096x64 .f32) :
    sout0_A_0 c i a1 h1 a2 h2 a3 h3 a4 h4 c0 c1 c2 c3 x = aug x := by
  unfold sout0_A_0
  rw [View.read_writes_eq_canon _ _ _ (scover0_A_0 c i a1 h1 a2 h2 a3 h3 a4 h4 c0 c1 c2 c3 x)]
  unfold kernelRun0_A
  dsimp only
  rw [stores_eq]
  exact canon_aug c i a1 h1 a2 h2 a3 h3 a4 h4 c0 c1 c2 c3 x

/-- What the three cells of the second scratch array hold. -/
def cells (a b s : Ideal .f32) : Vec Ideal S3 .f32 := fun i => (![a, b, s] : Fin 3 → Ideal .f32) (i 0)

theorem cells_zero (a b s : Ideal .f32) : cells a b s (ix1 0) = a := rfl
theorem cells_one (a b s : Ideal .f32) : cells a b s (ix1 1) = b := rfl
theorem cells_two (a b s : Ideal .f32) : cells a b s (ix1 2) = s := rfl

section

variable (m₁ m₂ m₃ m₄ m₅ m₆ m₇ m₈ m₉ m₁₀ : FVec Ideal S2048 .f32)

theorem max_steps : k0_pay108 m₁ m₂ m₃ m₄ m₅ m₆ m₇ m₈ m₉ m₁₀ = maxOf (k0_pay107 m₁ m₂ m₃ m₄ m₅ m₆ m₇ m₈ m₉ m₁₀) := rfl
theorem exp_steps : k0_pay109 m₁ m₂ m₃ m₄ m₅ m₆ m₇ m₈ m₉ m₁₀ = expOf (k0_pay107 m₁ m₂ m₃ m₄ m₅ m₆ m₇ m₈ m₉ m₁₀) := rfl
theorem sum_steps : k0_pay110 m₁ m₂ m₃ m₄ m₅ m₆ m₇ m₈ m₉ m₁₀ = sumOf (k0_pay107 m₁ m₂ m₃ m₄ m₅ m₆ m₇ m₈ m₉ m₁₀) := rfl

theorem max_join (a : Ideal .f32) : k0_pay111 m₁ m₂ m₃ m₄ m₅ m₆ m₇ m₈ m₉ m₁₀ a
    = max2 a (maxOf (k0_pay107 m₁ m₂ m₃ m₄ m₅ m₆ m₇ m₈ m₉ m₁₀)) := rfl
theorem exp_join (a b : Ideal .f32) : k0_pay112 m₁ m₂ m₃ m₄ m₅ m₆ m₇ m₈ m₉ m₁₀ a b
    = exp2 a b (maxOf (k0_pay107 m₁ m₂ m₃ m₄ m₅ m₆ m₇ m₈ m₉ m₁₀)) (expOf (k0_pay107 m₁ m₂ m₃ m₄ m₅ m₆ m₇ m₈ m₉ m₁₀)) := rfl
theorem sum_join (s : Ideal .f32) : k0_pay113 m₁ m₂ m₃ m₄ m₅ m₆ m₇ m₈ m₉ m₁₀ s
    = Scalar.addf s (sumOf (k0_pay107 m₁ m₂ m₃ m₄ m₅ m₆ m₇ m₈ m₉ m₁₀)) := rfl

end

/-- A load of one cell. -/
theorem cell_read (a4 : Memref sig .tc .smem S3 .f32) (h4 : a4.IsWhole) (a b s : Ideal .f32) (k : Fin 3)
    (inb : ∀ d, (![k.val] : Fin 1 → ℕ) d + S1.size d ≤ S3.size d) (h : 0 < S1.numel) :
    View.readAt (Elt Ideal) a4.view (Rect.unit (s := S3) ![k.val] S1.size inb).toLoadRect (h4.unread (cells a b s))
      (Shape.Idx.first h) = (![a, b, s] : Fin 3 → Ideal .f32) k := by
  rw [View.readAt_eq_ld, h4.read_unread]
  exact congrArg (![a, b, s] : Fin 3 → Ideal .f32) (Fin.ext (Nat.add_zero _))

/-- The first grid point's means. -/
theorem means_A (c : Dev nD) (i : grid0.Coords) (a1 : Memref sig .tc .vmem S4096x64 .f32) (h1 : a1.IsWhole)
    (a3 : Memref sig .tc .vmem S4096x66 .f32) (x : Vec Ideal S4096x64 .f32)
    (hg : View.canon (augStores x) = aug x) :
    k0_pay107 (F := Ideal) (kernelRun0_A.sl.v146 c i a1 h1 a3 x) (kernelRun0_A.sl.v153 c i a1 h1 a3 x)
      (kernelRun0_A.sl.v160 c i a1 h1 a3 x) (kernelRun0_A.sl.v167 c i a1 h1 a3 x)
      (kernelRun0_A.sl.v174 c i a1 h1 a3 x) (kernelRun0_A.sl.v181 c i a1 h1 a3 x)
      (kernelRun0_A.sl.v188 c i a1 h1 a3 x) (kernelRun0_A.sl.v195 c i a1 h1 a3 x)
      (kernelRun0_A.sl.v202 c i a1 h1 a3 x) (kernelRun0_A.sl.v207 c i a1 h1 a3 x)
      = meansOf i x (aug x) := by
  have hy : View.readAt (Elt Ideal) a1.view (Rect.unit (s := S4096x64) (k0_off1 i) S2048x64.size
      (k0_off1_inb i)).toLoadRect (h1.unread x) = take i x := by
    rw [View.readAt_eq_ld, h1.read_unread]
    rfl
  have hv : a3.view.readCov (kernelRun0_A.sl.HS0_3 (F := Ideal) c a1 h1 x)
      (Rect.unit (s := S4096x66) ![0, 0] S4096x66.size inb_S4096x66_S4096x66_0_0).toLoadRect = aug x := by
    rw [View.readCov_eq_canon', stores_eq, hg]
    exact View.ld_unit_zero (S := S4096x66) (Val := Elt Ideal) (e := .f32) hz inb_S4096x66_S4096x66_0_0 (aug x)
  rw [meansOf, ← hy, ← hv]
  exact kept_steps _ _ (e := kernelRun0_A.sl.v13 c i a1 h1 a3 x) (b := kernelRun0_A.sl.v45 c i a1 h1 a3 x)
    (a := kernelRun0_A.sl.v46 c i a1 h1 a3 x) (l := kernelRun0_A.sl.v47 c i a1 h1 a3 x)
    (b' := kernelRun0_A.sl.v105 c i a1 h1 a3 x) (a' := kernelRun0_A.sl.v106 c i a1 h1 a3 x)
    (l' := kernelRun0_A.sl.v107 c i a1 h1 a3 x) (p := kernelRun0_A.sl.v157 c i a1 h1 a3 x)
    (q := kernelRun0_A.sl.v159 c i a1 h1 a3 x) rfl rfl rfl rfl rfl rfl rfl rfl rfl rfl rfl rfl rfl rfl rfl rfl rfl rfl rfl

/-- The second grid point's means. -/
theorem means_B (c : Dev nD) (i : grid0.Coords) (a1 : Memref sig .tc .vmem S4096x64 .f32) (h1 : a1.IsWhole)
    (a3 : Memref sig .tc .vmem S4096x66 .f32) (h3 : a3.IsWhole) (x : Vec Ideal S4096x64 .f32)
    (g : Vec Ideal S4096x66 .f32) :
    k0_pay107 (F := Ideal) (kernelRun0_B.sl.v146 c i a1 h1 a3 h3 x g) (kernelRun0_B.sl.v153 c i a1 h1 a3 h3 x g)
      (kernelRun0_B.sl.v160 c i a1 h1 a3 h3 x g) (kernelRun0_B.sl.v167 c i a1 h1 a3 h3 x g)
      (kernelRun0_B.sl.v174 c i a1 h1 a3 h3 x g) (kernelRun0_B.sl.v181 c i a1 h1 a3 h3 x g)
      (kernelRun0_B.sl.v188 c i a1 h1 a3 h3 x g) (kernelRun0_B.sl.v195 c i a1 h1 a3 h3 x g)
      (kernelRun0_B.sl.v202 c i a1 h1 a3 h3 x g) (kernelRun0_B.sl.v207 c i a1 h1 a3 h3 x g)
      = meansOf i x g := by
  have hy : View.readAt (Elt Ideal) a1.view (Rect.unit (s := S4096x64) (k0_off1 i) S2048x64.size
      (k0_off1_inb i)).toLoadRect (h1.unread x) = take i x := by
    rw [View.readAt_eq_ld, h1.read_unread]
    rfl
  have hv : View.readAt (Elt Ideal) a3.view (Rect.unit (s := S4096x66) ![0, 0] S4096x66.size
      inb_S4096x66_S4096x66_0_0).toLoadRect (h3.unread g) = g := by
    rw [View.readAt_eq_ld, h3.read_unread, View.ld_unit_zero (S := S4096x66) hz]
  rw [meansOf, ← hy]
  conv_rhs => rw [← hv]
  exact kept_steps _ _ (e := kernelRun0_B.sl.v13 c i a1 h1 a3 h3 x g) (b := kernelRun0_B.sl.v45 c i a1 h1 a3 h3 x g)
    (a := kernelRun0_B.sl.v46 c i a1 h1 a3 h3 x g) (l := kernelRun0_B.sl.v47 c i a1 h1 a3 h3 x g)
    (b' := kernelRun0_B.sl.v105 c i a1 h1 a3 h3 x g) (a' := kernelRun0_B.sl.v106 c i a1 h1 a3 h3 x g)
    (l' := kernelRun0_B.sl.v107 c i a1 h1 a3 h3 x g) (p := kernelRun0_B.sl.v157 c i a1 h1 a3 h3 x g)
    (q := kernelRun0_B.sl.v159 c i a1 h1 a3 h3 x g) rfl rfl rfl rfl rfl rfl rfl rfl rfl rfl rfl rfl rfl rfl rfl rfl rfl rfl rfl

/-- The first grid point leaves in the cells the largest of its means, their sum of exponentials and their sum. -/
theorem sout_A1 (c : Dev nD) (i : grid0.Coords)
    (a1 : Memref sig .tc .vmem S4096x64 .f32) (h1 : a1.IsWhole)
    (a2 : Memref sig .tc .smem S1x1 .f32) (h2 : a2.IsWhole) (a3 : Memref sig .tc .vmem S4096x66 .f32) (h3 : a3.IsWhole)
    (a4 : Memref sig .tc .smem S3 .f32) (h4 : a4.IsWhole) (c0 : cond0_0 i) (c1 : cond0_1 i) (c2 : ¬cond0_2 i)
    (c3 : ¬cond0_3 i) (x : Vec Ideal S4096x64 .f32) :
    sout0_A_1 c i a1 h1 a2 h2 a3 h3 a4 h4 c0 c1 c2 c3 x = cells (maxOf (meansOf i x (aug x)))
      (expOf (meansOf i x (aug x))) (sumOf (meansOf i x (aug x))) := by
  have hm := means_A c i a1 h1 a3 x (canon_aug c i a1 h1 a2 h2 a3 h3 a4 h4 c0 c1 c2 c3 x)
  unfold sout0_A_1
  rw [View.read_writes_eq_canon _ _ _ (scover0_A_1 c i a1 h1 a2 h2 a3 h3 a4 h4 c0 c1 c2 c3 x)]
  unfold kernelRun0_A
  dsimp only
  rw [← hm]
  funext j
  idx_vars j
  canon_tiles y hy
  all_goals
    idx_vars y
    obtain rfl : y0 = 0 := Subsingleton.elim _ _
  · have e : j0 = 2 := Fin.ext hy0
    rw [e, cells_two, ← sum_steps]
  · have e : j0 = 1 := Fin.ext hy0
    rw [e, cells_one, ← exp_steps]
  · have e : j0 = 0 := Fin.ext hy0
    rw [e, cells_zero, ← max_steps]

/-- The second grid point writes the loss. -/
theorem out_B1 (c : Dev nD) (i : grid0.Coords)
    (a1 : Memref sig .tc .vmem S4096x64 .f32) (h1 : a1.IsWhole)
    (a2 : Memref sig .tc .smem S1x1 .f32) (h2 : a2.IsWhole) (a3 : Memref sig .tc .vmem S4096x66 .f32) (h3 : a3.IsWhole)
    (a4 : Memref sig .tc .smem S3 .f32) (h4 : a4.IsWhole) (c0 : ¬cond0_0 i) (c1 : ¬cond0_1 i) (c2 : cond0_2 i)
    (c3 : cond0_3 i) (x : Vec Ideal S4096x64 .f32) (g : Vec Ideal S4096x66 .f32) (m : FVec Ideal S2048 .f32) :
    out0_B_1 c i a1 h1 a2 h2 a3 h3 a4 h4 c0 c1 c2 c3 x g (cells (maxOf m) (expOf m) (sumOf m))
      = fun _ => lossOf m (meansOf i x g) := by
  have hm := means_B c i a1 h1 a3 h3 x g
  unfold out0_B_1
  rw [View.read_writes_eq_canon _ _ _ (cover0_B_1 c i a1 h1 a2 h2 a3 h3 a4 h4 c0 c1 c2 c3 x g _)]
  unfold kernelRun0_B
  dsimp only
  rw [View.canon_unit_zero hz, ← hm]
  have r0 : ∀ a b s : Ideal .f32, kernelRun0_B.sl.r (F := Ideal) c a4 h4 (cells a b s) = a := by
    intro a b s
    unfold kernelRun0_B.sl.r
    exact cell_read a4 h4 a b s 0 _ _
  have r1 : ∀ a b s : Ideal .f32, kernelRun0_B.sl.r_1 (F := Ideal) c a4 h4 (cells a b s) = b := by
    intro a b s
    unfold kernelRun0_B.sl.r_1
    exact cell_read a4 h4 a b s 1 _ _
  have r3 : ∀ a b s : Ideal .f32, kernelRun0_B.sl.r_3 (F := Ideal) c a4 h4 (cells a b s) = s := by
    intro a b s
    unfold kernelRun0_B.sl.r_3 kernelRun0_B.sl.f_1
    exact cell_read a4 h4 a b s 2 _ _
  funext j
  unfold kernelRun0_B.sl.r_4 kernelRun0_B.sl.r_5 kernelRun0_B.sl.r_6
  rw [r0, r1, r3, max_join, exp_join, sum_join]
  rfl

end Cert.KernelIdeal.Final

end
-- ==== Proof.KernelFinal.lean ====
/- The kernel's result array on real points: the loss of every row's mean distance, as the rounds keep it. -/
module

public import proofs.«01_k».proof.Proof.KernelValue

@[expose] public section

set_option maxRecDepth 16384

noncomputable section

namespace Cert.KernelIdeal.Final

open Cert.KernelIdeal Cert.KernelIdeal.Gen Idealize.ShloMosaic Idealize.ShloMosaic.TcCoe
open Idealize.ShloMosaic.Pipeline (Dat)
open Dist Select Stats

variable (m : (ℓ : Loc nD τ sig) → Buf (Elt Ideal) ℓ)

/-- The input's one block is the whole array of points. -/
theorem block_eq (c : Dev nD) (t : Fin cfg0.N) : iblk m c 0 t = m ((c : Thread nD τ).loc main_arg0) := by
  funext y
  have hi : ∀ a, win0_0.index t a = 0 := (by decide +kernel : ∀ t : Fin cfg0.N, ∀ a, win0_0.index t a = 0) t
  blk_ext [iblk, V, hi 0, hi 1]

/-- The last point of the grid. -/
def last : Fin cfg0.N := ⟨1, by decide +kernel⟩

/-- The first point of the grid. -/
def first : Fin cfg0.N := ⟨0, by decide +kernel⟩

/-- The result array after the run. -/
theorem result_eq (c : Dev nD) :
    (dats m 0 c).arrAt 1 cfg0.N = fun _ =>
      lossOf (meansOf (grid0.coords first) (m ((c : Thread nD τ).loc main_arg0)) (aug (m ((c : Thread nD τ).loc main_arg0))))
        (meansOf (grid0.coords last) (m ((c : Thread nD τ).loc main_arg0)) (aug (m ((c : Thread nD τ).loc main_arg0)))) := by
  refine (dats m 0 c).arrAt_eq_of_covers 1 _ (by decide +kernel) fun t hf y => ?_
  have h1 : t.val % 2 = 1 := (flush0_1 t).mp hf
  have ht : t = last := Fin.ext (by have hN : t.val < 2 := lt_of_lt_of_eq t.isLt N_0; show t.val = 1; omega)
  subst ht
  have hA := outsAt0_A m c first rfl rfl (by decide) (by decide)
  rw [sout_A0, sout_A1, block_eq] at hA
  have hB := outsAt0_B m c last (by decide) (by decide) rfl rfl
  have e : outsAt0 m c (last.val - 1) (Nat.lt_of_le_of_lt (Nat.sub_le _ _) last.isLt) = outsAt0 m c first.val first.isLt := rfl
  rw [e, hA] at hB
  dsimp only at hB
  rw [out_B1, block_eq] at hB
  blk_simp
  rw [after0_1, hB]

/-- The rows the two grid points take. -/
theorem take_first (X : Fin 4096 → Fin 64 → ℝ) : take (grid0.coords first) (pts X) = rows X row₀ := by
  funext i
  idx_vars i
  have hoff : k0_off1 (grid0.coords first) = ![0, 0] := by decide +kernel
  refine congrArg ((↑) : ℝ → EReal) (congrArg₂ X (Fin.ext ?_) (Fin.ext ?_))
  · show k0_off1 (grid0.coords first) 0 + 1 * i0.val = (row₀ i0).val
    rw [hoff]
    simp [Stats.row₀]
  · show k0_off1 (grid0.coords first) 1 + 1 * i1.val = i1.val
    rw [hoff]
    simp

@[inherit_doc take_first]
theorem take_last (X : Fin 4096 → Fin 64 → ℝ) : take (grid0.coords last) (pts X) = rows X row₁ := by
  funext i
  idx_vars i
  have hoff : k0_off1 (grid0.coords last) = ![2048, 0] := by decide +kernel
  refine congrArg ((↑) : ℝ → EReal) (congrArg₂ X (Fin.ext ?_) (Fin.ext ?_))
  · show k0_off1 (grid0.coords last) 0 + 1 * i0.val = (row₁ i0).val
    rw [hoff]
    simp [Stats.row₁]
  · show k0_off1 (grid0.coords last) 1 + 1 * i1.val = i1.val
    rw [hoff]
    simp

/-- A grid point's means, where the ten kept squared distances of every row are known. -/
theorem meansOf_eq (X : Fin 4096 → Fin 64 → ℝ) (Y : Fin 4096 → ℕ → ℝ) (hY : ∀ r i, 0 ≤ Y r i)
    (hn : ∀ r, Rows.Nearest (fun j => ((sqDist X r j : ℝ) : EReal)) (fun i => ((Y r i : ℝ) : EReal)) big)
    (i : grid0.Coords) (R : Fin 2048 → Fin 4096) (hR : take i (pts X) = rows X R) :
    meansOf i (pts X) (aug (pts X)) = means fun r => (∑ k : Fin 10, Real.sqrt (Y (R r) (k.val + 1))) * 10⁻¹ := by
  funext j
  idx_vars j
  rw [meansOf, meanV_apply, hR]
  have hk : ∀ k : Fin 10, kept (k0_pay5 (rows X R) (aug (pts X))) (k.val + 1) (ix1 j0)
      = ((Y (R j0) (k.val + 1) : ℝ) : EReal) := by
    intro k
    rw [kept_apply]
    simp only [dist_apply]
    exact Rows.least_rounds (hn (R j0)) k.isLt
  simp only [hk]
  have hs : ∀ k : Fin 10, Ideal.sqrt (max ((Y (R j0) (k.val + 1) : ℝ) : EReal) 0)
      = ((Real.sqrt (Y (R j0) (k.val + 1)) : ℝ) : EReal) := by
    intro k
    rw [max_eq_left (EReal.coe_nonneg.mpr (hY _ _)), Ideal.sqrt_coe, if_neg (not_lt.mpr (hY _ _))]
  simp only [hs]
  rw [← Reals.coe_sum, ← EReal.coe_mul]
  rfl

/-- The kernel's result on real points. -/
theorem result_loss (c : Dev nD) (X : Fin 4096 → Fin 64 → ℝ) (hX : m ((c : Thread nD τ).loc main_arg0) = pts X)
    (Y : Fin 4096 → ℕ → ℝ) (hY : ∀ r i, 0 ≤ Y r i)
    (hn : ∀ r, Rows.Nearest (fun j => ((sqDist X r j : ℝ) : EReal)) (fun i => ((Y r i : ℝ) : EReal)) big) :
    (dats m 0 c).arrAt 1 cfg0.N
      = fun _ => ((Loss.loss fun r => (∑ k : Fin 10, Real.sqrt (Y r (k.val + 1))) * 10⁻¹ : ℝ) : EReal) := by
  rw [result_eq, hX, meansOf_eq X Y hY hn _ _ (take_first X), meansOf_eq X Y hY hn _ _ (take_last X)]
  exact funext fun _ => lossOf_means fun r => (∑ k : Fin 10, Real.sqrt (Y r (k.val + 1))) * 10⁻¹

end Cert.KernelIdeal.Final

end
-- ==== Proof.PointDist.lean ====
/- Distances between points whose coordinates may be infinite. -/
module

public import proofs.«01_k».proof.Proof.KernelDist

@[expose] public section

set_option maxRecDepth 16384

noncomputable section

namespace Cert.PointDist

open Cert.KernelIdeal Cert.KernelIdeal.Dist Idealize.ShloMosaic

/-- The squared length of point `r`. -/
def len (x : FVec Ideal S4096x64 .f32) (r : Fin 4096) : EReal := ∑ k : Fin 64, x (ix2 r k) * x (ix2 r k)

/-- The squared distance by the expanded square, not below zero. -/
def square (x : FVec Ideal S4096x64 .f32) (r c : Fin 4096) : EReal :=
  max (len x r + len x c - ((2 : ℝ) : EReal) * ∑ k : Fin 64, x (ix2 r k) * x (ix2 c k)) 0

/-- The square root of a squared distance, zero where that is zero. -/
def root (d : EReal) : EReal := if 0 < d then Ideal.sqrt (if 0 < d then d else 1) else 0

/-- The distance. -/
def dist (x : FVec Ideal S4096x64 .f32) (r c : Fin 4096) : EReal := root (square x r c)

/-- Of real points the squared distance is the sum of squared differences. -/
theorem square_pts (X : Fin 4096 → Fin 64 → ℝ) (r c : Fin 4096) :
    square (pts X) r c = ((sqDist X r c : ℝ) : EReal) := by
  have hs : ∀ p q : Fin 4096, (∑ k : Fin 64, pts X (ix2 p k) * pts X (ix2 q k))
      = ((∑ k, X p k * X q k : ℝ) : EReal) := by
    intro p q
    rw [Reals.coe_sum]
    exact Finset.sum_congr rfl fun k _ => (EReal.coe_mul _ _).symm
  have e : (∑ k, X r k * X r k) + (∑ k, X c k * X c k) - 2 * ∑ k, X r k * X c k = sqDist X r c := by
    rw [sqDist, Finset.mul_sum, ← Finset.sum_add_distrib, ← Finset.sum_sub_distrib]
    exact Finset.sum_congr rfl fun k _ => by ring
  rw [square, len, len, hs, hs, hs, ← EReal.coe_mul, ← EReal.coe_add, ← EReal.coe_sub, e]
  exact max_eq_left (EReal.coe_nonneg.mpr (sqDist_nonneg X r c))

/-- The root of a real number that is not negative is its square root. -/
theorem root_coe {d : ℝ} (h : 0 ≤ d) : root (d : EReal) = ((Real.sqrt d : ℝ) : EReal) := by
  unfold root
  rcases h.eq_or_lt with rfl | h
  · simp
  · have h' : (0 : EReal) < (d : EReal) := EReal.coe_pos.mpr h
    rw [if_pos h', if_pos h', Ideal.sqrt_coe, if_neg h.le.not_gt]

/-- Of real points the distance is the square root of the sum of squared differences. -/
theorem dist_pts (X : Fin 4096 → Fin 64 → ℝ) (r c : Fin 4096) :
    dist (pts X) r c = ((Real.sqrt (sqDist X r c) : ℝ) : EReal) := by
  rw [dist, square_pts, root_coe (sqDist_nonneg X r c)]

/-- A product of a number with itself is not negative. -/
theorem self_mul_nonneg (a : EReal) : 0 ≤ a * a := by
  rcases le_total 0 a with h | h
  · exact mul_nonneg h h
  · have : a * a = -a * -a := (neg_mul_neg a a).symm
    rw [this]
    have h' : 0 ≤ -a := by rwa [EReal.le_neg, neg_zero]
    exact mul_nonneg h' h'

/-- A point with an infinite coordinate has infinite length. -/
theorem len_top (x : FVec Ideal S4096x64 .f32) (r : Fin 4096) (k : Fin 64)
    (h : (x (ix2 r k) : EReal) = ⊤ ∨ (x (ix2 r k) : EReal) = ⊥) : len x r = ⊤ := by
  have h1 : (x (ix2 r k) : EReal) * x (ix2 r k) = ⊤ := by rcases h with h | h <;> rw [h] <;> rfl
  have h2 : (x (ix2 r k) : EReal) * x (ix2 r k) ≤ len x r :=
    Finset.single_le_sum (f := fun k : Fin 64 => (x (ix2 r k) : EReal) * x (ix2 r k))
      (fun i _ => self_mul_nonneg _) (Finset.mem_univ k)
  exact top_le_iff.mp (h1 ▸ h2)

/-- A length is not negative. -/
theorem len_nonneg (x : FVec Ideal S4096x64 .f32) (r : Fin 4096) : 0 ≤ len x r :=
  Finset.sum_nonneg fun _ _ => self_mul_nonneg _

/-- A point with an infinite coordinate is at distance zero or infinity of every point. -/
theorem dist_infinite (x : FVec Ideal S4096x64 .f32) (r c : Fin 4096) (h : len x r = ⊤) :
    dist x r c = 0 ∨ dist x r c = ⊤ := by
  have h1 : len x r + len x c = ⊤ := by
    rw [h]
    exact EReal.top_add_of_ne_bot (ne_of_gt (lt_of_lt_of_le EReal.bot_lt_zero (len_nonneg x c)))
  unfold dist square root
  rw [h1]
  generalize ((2 : ℝ) : EReal) * ∑ k : Fin 64, x (ix2 r k) * x (ix2 c k) = t
  induction t with
  | bot => right; simp
  | top => left; simp
  | coe t => right; simp

/-- Every array without an infinite coordinate is an array of real points. -/
theorem exists_pts (x : FVec Ideal S4096x64 .f32)
    (h : ∀ r k, ¬((x (ix2 r k) : EReal) = ⊤ ∨ (x (ix2 r k) : EReal) = ⊥)) : ∃ X, x = pts X := by
  refine ⟨fun r k => (x (ix2 r k) : EReal).toReal, funext fun i => ?_⟩
  have e : i = ix2 (i 0) (i 1) := by funext a; fin_cases a <;> rfl
  have hi := h (i 0) (i 1)
  rw [not_or] at hi
  have := EReal.coe_toReal hi.1 hi.2
  exact (congrArg x e).trans this.symm

end Cert.PointDist

end
-- ==== Proof.TopK.lean ====
/- The eleven greatest numbers of every row of a square array, with their places. -/
module

public import proofs.«01_k».proof.ReferenceIdeal
public import Idealize.ShloMosaic.Lib.Pointwise
public import Idealize.ShloMosaic.Lib.SortFacts

@[expose] public section

set_option maxRecDepth 16384

noncomputable section

namespace Cert.TopK

open Cert.ReferenceIdeal Idealize.ShloMosaic

/-- Whether the first number is the greater. -/
theorem greater (a b : EReal) :
    ((FloatOps.cmpfTotal (F := Ideal) (φ := .f32) .gt a b) == 1#1) = decide (b < a) := by
  change (BitVec.ofBool (decide (b < a)) == 1#1) = decide (b < a)
  cases decide (b < a) <;> rfl

/-- Which column of row `r` stands `i`-th when the row is put in descending order. -/
def place (v : FVec Ideal S4096x4096 .f32) (r : Fin 4096) : Fin 4096 → Fin 4096 :=
  sortedFrom fun k k' => decide (v (ix2 r k') < v (ix2 r k))

/-- Every column stands somewhere. -/
theorem place_surjective (v : FVec Ideal S4096x4096 .f32) (r : Fin 4096) : Function.Surjective (place v r) :=
  sortedFrom_surjective _

/-- No column stands twice. -/
theorem place_injective (v : FVec Ideal S4096x4096 .f32) (r : Fin 4096) : Function.Injective (place v r) :=
  sortedFrom_injective _

/-- The row does descend along these places. -/
theorem place_le (v : FVec Ideal S4096x4096 .f32) (r : Fin 4096) {i j : Fin 4096} (h : i < j) :
    (v (ix2 r (place v r j)) : EReal) ≤ v (ix2 r (place v r i)) := by
  have asym : ∀ a b : Fin 4096, decide (v (ix2 r b) < v (ix2 r a)) = true → decide (v (ix2 r a) < v (ix2 r b)) = false :=
    fun a b hab => decide_eq_false (not_lt_of_gt (of_decide_eq_true hab))
  have key := sortedFrom_noInversion
    (fun k k' => decide (v (ix2 r k') < v (ix2 r k))) (fun k k' => decide (v (ix2 r k') < v (ix2 r k)))
    asym (fun _ _ hab => hab)
    (fun a b c hab hbc => by
      simp only [decide_eq_false_iff_not, not_lt] at hab hbc ⊢
      exact hab.trans hbc) i j h
  exact not_lt.mp (of_decide_eq_false key)

/-- Putting a list of numbers in descending order by the comparison the sort is given. -/
theorem order_eq (g f : Fin 4096 → EReal) (hg : ∀ k, g k = f k) (p q : Fin 4096) (hp : p = q) :
    sortedFrom (fun k k' => (FloatOps.cmpfTotal (F := Ideal) (φ := .f32) .gt (g k) (g k')) == 1#1) p
      = sortedFrom (fun k k' => decide (f k' < f k)) q := by
  obtain rfl : g = f := funext hg
  subst hp
  simp only [greater]

/-- An entry of row `r`, reached along the row. -/
theorem along_row (J : S4096x4096.Idx) (r : Fin 4096) (h : J 0 = r) (k : Fin 4096) :
    J.along (1 : Fin 2) k = ix2 r k := by
  funext a
  unfold Shape.Idx.along
  fin_cases a
  · exact h
  · rfl

/-- The values it returns. -/
theorem values_apply (v : FVec Ideal S4096x4096 .f32) (h : S4096x4096.Slices (fun _ => 0) S4096x11) (r : Fin 4096)
    (i : Fin 11) :
    (Host.topK S4096x11 1 (FloatOps.cmpfTotal (F := Ideal) (φ := .f32) .gt) v h).1 (ix2 r i)
      = v (ix2 r (place v r ⟨i.val, by omega⟩)) := by
  unfold Host.topK Host.sort2 extractStridedSlice
  have h1 : 1 < S4096x4096.rank := by decide
  simp only [dif_pos h1]
  have key : ∀ J : S4096x4096.Idx, J 0 = r → J 1 = (⟨i.val, by omega⟩ : Fin 4096) →
      v (J.along (1 : Fin 2) (sortedFrom (fun k k' => (FloatOps.cmpfTotal (F := Ideal) (φ := .f32) .gt
        (v (J.along (1 : Fin 2) k)) (v (J.along (1 : Fin 2) k'))) == 1#1) (J 1)))
      = v (ix2 r (place v r ⟨i.val, by omega⟩)) := by
    intro J h0 h1
    exact congrArg v ((along_row J r h0 _).trans (congrArg (ix2 r)
      (order_eq (fun k => v (J.along (1 : Fin 2) k)) (fun k => v (ix2 r k)) (fun k => congrArg v (along_row J r h0 k)) _ _ h1)))
  exact key _ (Fin.ext (Nat.zero_add _)) (Fin.ext (Nat.zero_add _))

/-- The places it returns. -/
theorem indices_apply (v : FVec Ideal S4096x4096 .f32) (h : S4096x4096.Slices (fun _ => 0) S4096x11) (r : Fin 4096)
    (i : Fin 11) :
    (Host.topK S4096x11 1 (FloatOps.cmpfTotal (F := Ideal) (φ := .f32) .gt) v h).2 (ix2 r i)
      = BitVec.ofNat 32 (place v r ⟨i.val, by omega⟩).val := by
  unfold Host.topK Host.sort2 extractStridedSlice
  have h1 : 1 < S4096x4096.rank := by decide
  simp only [dif_pos h1]
  have key : ∀ J : S4096x4096.Idx, J 0 = r → J 1 = (⟨i.val, by omega⟩ : Fin 4096) →
      iotaInDim S4096x4096 32 (1 : Fin 2) (J.along (1 : Fin 2) (sortedFrom (fun k k' =>
        (FloatOps.cmpfTotal (F := Ideal) (φ := .f32) .gt
        (v (J.along (1 : Fin 2) k)) (v (J.along (1 : Fin 2) k'))) == 1#1) (J 1)))
      = BitVec.ofNat 32 (place v r ⟨i.val, by omega⟩).val := by
    intro J h0 h1
    have e : J.along (1 : Fin 2) _ = ix2 r (place v r ⟨i.val, by omega⟩) := (along_row J r h0 _).trans (congrArg (ix2 r)
      (order_eq (fun k => v (J.along (1 : Fin 2) k)) (fun k => v (ix2 r k)) (fun k => congrArg v (along_row J r h0 k)) _ _ h1))
    exact (congrArg (iotaInDim S4096x4096 32 (1 : Fin 2)) e).trans rfl
  exact key _ (Fin.ext (Nat.zero_add _)) (Fin.ext (Nat.zero_add _))

end Cert.TopK

end
-- ==== Proof.Separated.lean ====
/- The precondition, read: what it says of the eleven nearest points of every row. -/
module

public import proofs.«01_k».proof.Proof.Gen.Pre_separated
public import proofs.«01_k».proof.Proof.Rows
public import proofs.«01_k».proof.Proof.TopK
public import Idealize.ShloMosaic.Lib.IndicatorCount
public import Idealize.ShloMosaic.Lib.ReduceAll

@[expose] public section

set_option maxRecDepth 16384

noncomputable section

namespace Cert.Separated

open Cert.Pre_separated Cert.Pre_separated.Gen Cert.TopK Idealize.ShloMosaic

/-- The eleven greatest of every row. -/
def greatest (v : FVec Ideal S4096x4096 .f32) : FVec Ideal S4096x11 .f32 :=
  (Host.topK S4096x11 1 (FloatOps.cmpfTotal .gt) v sliceFits_S4096x4096_S4096x11).1

/-- They descend strictly. -/
def descends (v : FVec Ideal S4096x4096 .f32) : IVec S4096x10 1 :=
  cmpf .olt (extractStridedSlice S4096x10 ![0, 1] (greatest v) slices_S4096x11_S4096x10_0_1)
    (extractStridedSlice S4096x10 ![0, 0] (greatest v) slices_S4096x11_S4096x10_0_0)

/-- They are close. -/
def close (v : FVec Ideal S4096x4096 .f32) : IVec S4096x11 1 :=
  cmpf .ogt (greatest v) (broadcastInDim S4096x11 ![] bcast_S_S4096x11 (constant S_ .f32 0xDF0AC723#32))

/-- Which entries of a row are among them. -/
def chosen (v : FVec Ideal S4096x4096 .f32) : IVec S4096x4096 1 :=
  cmpf .oge v (broadcastInDim S4096x4096 ![0, 1] bcast_S4096x1_S4096x4096_0_1
    (extractStridedSlice S4096x1 ![0, 10] (greatest v) slices_S4096x11_S4096x1_0_10))

/-- How many of them every class of columns modulo 128 holds. -/
def crowd (b : IVec S4096x4096 1) : IVec S4096x128 32 :=
  Host.reduce IntOp.addi (shapeCast S4096x32x128 (extui 32 b natLt_1_32) shapeCasts_S4096x4096_S4096x32x128)
    (constantI S_ 32 0#32) reducesTo_S4096x32x128_S4096x128_d1 h_S_

/-- No class holds more than two. -/
def thin (v : FVec Ideal S4096x4096 .f32) : IVec S4096x128 1 :=
  cmpi .sle (crowd (chosen v)) (broadcastInDim S4096x128 ![] bcast_S_S4096x128 (constantI S_ 32 2#32))

/-- All three, of every row. -/
def verdict (v : FVec Ideal S4096x4096 .f32) : IVec S_ 1 :=
  andi (andi (Host.reduce IntOp.andi (descends v) (constantI S_ 1 1#1) reducesTo_S4096x10_S_d0_1 h_S_)
      (Host.reduce IntOp.andi (close v) (constantI S_ 1 1#1) reducesTo_S4096x11_S_d0_1 h_S_))
    (Host.reduce IntOp.andi (thin v) (constantI S_ 1 1#1) reducesTo_S4096x128_S_d0_1 h_S_)

/-- The number of entries of a class that are marked. -/
theorem crowd_apply (b : IVec S4096x4096 1) (r : Fin 4096) (l : Fin 128) :
    crowd b (ix2 r l) = BitVec.ofNat 32 (Finset.univ.filter fun k : Fin 32 => b (ix2 r (Rows.entry l k.val)) = 1#1).card := by
  rw [← IndicatorCount.fold_addi_setWidth_eq_card (w := 32) (fun k : Fin 32 => b (ix2 r (Rows.entry l k.val)))]
  pointwise [crowd]
  refine Finset.fold_congr fun k _ => ?_
  have e : (⟨k.val * 128 + l.val, by omega⟩ : Fin 4096) = Rows.entry l k.val := by
    refine Fin.ext ?_
    show k.val * 128 + l.val = 128 * (k.val % 32) + l.val
    omega
  exact congrArg (fun c => BitVec.setWidth 32 (b (ix2 r c))) e

/-- The greatest of a row, along its descending order. -/
theorem greatest_apply (v : FVec Ideal S4096x4096 .f32) (r : Fin 4096) (i : Fin 11) :
    greatest v (ix2 r i) = v (ix2 r (place v r ⟨i.val, by omega⟩)) :=
  values_apply v _ r i

/-- Two neighbours of the descending order compared. -/
theorem descends_apply (v : FVec Ideal S4096x4096 .f32) (r : Fin 4096) (i : Fin 10) :
    descends v (ix2 r i) = BitVec.ofBool (decide ((greatest v (ix2 r ⟨i.val + 1, by omega⟩) : EReal)
      < greatest v (ix2 r ⟨i.val, by omega⟩))) := by
  pointwise [descends]
  simp only [Nat.add_comm 1, Nat.zero_add]

/-- One of the greatest compared with the bound. -/
theorem close_apply (v : FVec Ideal S4096x4096 .f32) (r : Fin 4096) (i : Fin 11) :
    close v (ix2 r i) = BitVec.ofBool (decide ((Ideal.ofBits .f32 0xDF0AC723#32 : EReal) < greatest v (ix2 r i))) := by
  pointwise [close]

/-- One entry compared with the eleventh. -/
theorem chosen_apply (v : FVec Ideal S4096x4096 .f32) (r c : Fin 4096) :
    chosen v (ix2 r c) = BitVec.ofBool (decide ((greatest v (ix2 r ⟨10, by omega⟩) : EReal) ≤ v (ix2 r c))) := by
  pointwise [chosen]

/-- One class's number compared with two. -/
theorem thin_apply (v : FVec Ideal S4096x4096 .f32) (r : Fin 4096) (l : Fin 128) :
    thin v (ix2 r l) = IntOp.cmpi .sle (crowd (chosen v) (ix2 r l)) 2#32 := by
  pointwise [thin]

/-- A set of at most 32, its number written in a word, is at most two if the word is. -/
theorem card_le_two {n : ℕ} (hn : n ≤ 32) (h : IntOp.cmpi .sle (BitVec.ofNat 32 n) 2#32 = 1#1) : n ≤ 2 := by
  interval_cases n <;> revert h <;> decide

theorem of_ofBool {p : Prop} [Decidable p] (h : BitVec.ofBool (decide p) = 1#1) : p := by
  by_contra hp
  rw [decide_eq_false hp] at h
  exact absurd h (by decide)

/-- What the three conditions say, on the places of the descending order. -/
structure Holds (v : FVec Ideal S4096x4096 .f32) (r : Fin 4096) : Prop where
  /-- The greatest descend strictly. -/
  lt : ∀ (i j : Fin 4096), j.val < 10 → i.val = j.val + 1 → (v (ix2 r (place v r i)) : EReal) < v (ix2 r (place v r j))
  /-- The greatest are all close. -/
  near : ∀ i : Fin 4096, i.val ≤ 10 → (Ideal.ofBits .f32 0xDF0AC723#32 : EReal) < v (ix2 r (place v r i))
  /-- No class holds three of them. -/
  few : ∀ (l : Fin 128) (j k n : Fin 32), j ≠ k → k ≠ n → j ≠ n →
    ∀ g : EReal, g = v (ix2 r (place v r ⟨10, by omega⟩)) →
    g ≤ v (ix2 r (Rows.entry l j.val)) → g ≤ v (ix2 r (Rows.entry l k.val)) → g ≤ v (ix2 r (Rows.entry l n.val)) → False

theorem one_of_and {a b : BitVec 1} (h : a &&& b = 1#1) : a = 1#1 ∧ b = 1#1 := by
  revert a b; decide

/-- A verdict of one says all of it, of every row. -/
theorem holds (v : FVec Ideal S4096x4096 .f32) (h : verdict v = fun _ => 1#1) (r : Fin 4096) : Holds v r := by
  have h0 := congrFun h (fun a => a.elim0)
  obtain ⟨h1, h2⟩ := one_of_and h0
  obtain ⟨h3, h4⟩ := one_of_and h1
  have hu : Subsingleton S_.Idx := ⟨fun a b => funext fun i => i.elim0⟩
  have k1 := Host.reduce_andi_all _ _ _ _ _ h3
  have k2 := Host.reduce_andi_all _ _ _ _ _ h4
  have k3 := Host.reduce_andi_all _ _ _ _ _ h2
  refine ⟨fun i j hj hij => ?_, fun i hi => ?_, fun l j k n hjk hkn hjn g hg hj hk hn => ?_⟩
  · have := k1 (ix2 r ⟨j.val, by omega⟩)
    rw [descends_apply, greatest_apply, greatest_apply] at this
    have e : (⟨j.val + 1, by omega⟩ : Fin 4096) = i := Fin.ext hij.symm
    rw [← e]
    exact of_ofBool this
  · have := k2 (ix2 r ⟨i.val, by omega⟩)
    rw [close_apply, greatest_apply] at this
    exact of_ofBool this
  · have := k3 (ix2 r l)
    rw [thin_apply, crowd_apply] at this
    have hle := card_le_two ((Finset.card_le_univ _).trans (by simp)) this
    have mark : ∀ c : Fin 4096, g ≤ v (ix2 r c) → chosen v (ix2 r c) = 1#1 := by
      intro c hc
      rw [chosen_apply, greatest_apply]
      rw [hg] at hc
      exact congrArg BitVec.ofBool (decide_eq_true hc)
    have hsub : ({j, k, n} : Finset (Fin 32)) ⊆
        Finset.univ.filter fun k : Fin 32 => chosen v (ix2 r (Rows.entry l k.val)) = 1#1 := by
      intro p hp
      rw [Finset.mem_filter]
      refine ⟨Finset.mem_univ _, mark _ ?_⟩
      simp only [Finset.mem_insert, Finset.mem_singleton] at hp
      rcases hp with rfl | rfl | rfl <;> assumption
    have h3 : ({j, k, n} : Finset (Fin 32)).card = 3 := by
      rw [Finset.card_eq_three]
      exact ⟨j, k, n, hjk, hjn, hkn, rfl⟩
    have := Finset.card_le_card hsub
    omega

end Cert.Separated

end
-- ==== Proof.Nearest.lean ====
/- The eleven nearest points of every row under the precondition: the row of squared distances is one the kernel's
   selection is right for. -/
module

public import proofs.«01_k».proof.Proof.PointDist
public import proofs.«01_k».proof.Proof.Separated
public import proofs.«01_k».proof.Proof.KernelRows

@[expose] public section

set_option maxRecDepth 16384

noncomputable section

namespace Cert.Nearest

open Cert.KernelIdeal Cert.KernelIdeal.Dist Cert.PointDist Cert.TopK Cert.Separated Idealize.ShloMosaic

/-- The negated distances, whose greatest are the nearest. -/
def far (x : FVec Ideal S4096x64 .f32) : FVec Ideal Cert.ReferenceIdeal.S4096x4096 .f32 :=
  fun i => (-(dist x (i 0) (i 1)) : EReal)

theorem far_apply (x : FVec Ideal S4096x64 .f32) (r c : Fin 4096) : far x (ix2 r c) = (-(dist x r c) : EReal) := rfl

/-- Where every row descends strictly and stays close, the points are real. -/
theorem exists_real (x : FVec Ideal S4096x64 .f32) (h : ∀ r, Holds (far x) r) : ∃ X, x = pts X := by
  refine exists_pts x fun r k hk => ?_
  have hl := len_top x r k hk
  have zero : ∀ i : Fin 4096, i.val ≤ 10 → (far x (ix2 r (place (far x) r i)) : EReal) = 0 := by
    intro i hi
    have hn := (h r).near i hi
    rw [far_apply] at hn ⊢
    rcases dist_infinite x r (place (far x) r i) hl with e | e
    · rw [e, neg_zero]
    · rw [e, EReal.neg_top] at hn
      exact absurd hn not_lt_bot
  have hlt := (h r).lt ⟨1, by omega⟩ ⟨0, by omega⟩ (by decide) rfl
  rw [zero _ (by decide), zero _ (by decide)] at hlt
  exact lt_irrefl _ hlt

/-- Of real points, the negated distances are ordered against the squared distances. -/
theorem far_le (X : Fin 4096 → Fin 64 → ℝ) (r c d : Fin 4096) :
    (far (pts X) (ix2 r c) : EReal) ≤ far (pts X) (ix2 r d) ↔ sqDist X r d ≤ sqDist X r c := by
  rw [far_apply, far_apply, dist_pts, dist_pts, EReal.neg_le_neg_iff, EReal.coe_le_coe_iff,
    Real.sqrt_le_sqrt_iff (sqDist_nonneg X r c)]

/-- The squared distance of the point that stands `i`-th. -/
def rank (X : Fin 4096 → Fin 64 → ℝ) (r : Fin 4096) (i : ℕ) : ℝ :=
  sqDist X r (place (far (pts X)) r ⟨i % 4096, Nat.mod_lt _ (by omega)⟩)

theorem rank_nonneg (X : Fin 4096 → Fin 64 → ℝ) (r : Fin 4096) (i : ℕ) : 0 ≤ rank X r i := sqDist_nonneg X r _

theorem rank_of_lt (X : Fin 4096 → Fin 64 → ℝ) (r : Fin 4096) (i : ℕ) (h : i < 4096) :
    rank X r i = sqDist X r (place (far (pts X)) r ⟨i, h⟩) := by
  have e : (⟨i % 4096, Nat.mod_lt _ (by omega)⟩ : Fin 4096) = ⟨i, h⟩ := Fin.ext (Nat.mod_eq_of_lt h)
  rw [rank, e]

/-- The squared distances ascend along the places. -/
theorem rank_le (X : Fin 4096 → Fin 64 → ℝ) (r : Fin 4096) (i j : ℕ) (hj : j < 4096) (h : i ≤ j) :
    rank X r i ≤ rank X r j := by
  rcases h.eq_or_lt with rfl | h
  · exact le_rfl
  · rw [rank_of_lt X r i (by omega), rank_of_lt X r j hj, ← far_le]
    exact place_le _ r h

/-- The first eleven ascend strictly. -/
theorem rank_lt (X : Fin 4096 → Fin 64 → ℝ) (r : Fin 4096) (h : Holds (far (pts X)) r) (i : ℕ) (hi : i < 10) :
    rank X r i < rank X r (i + 1) := by
  rw [rank_of_lt X r i (by omega), rank_of_lt X r (i + 1) (by omega), ← not_le, ← far_le, not_le]
  exact h.lt _ _ hi rfl

/-- Every point stands somewhere. -/
theorem exists_rank (X : Fin 4096 → Fin 64 → ℝ) (r c : Fin 4096) :
    ∃ p, ∃ hp : p < 4096, place (far (pts X)) r ⟨p, hp⟩ = c := by
  obtain ⟨p, hp⟩ := place_surjective (far (pts X)) r c
  exact ⟨p.val, p.isLt, hp⟩

/-- The eleventh is below the kernel's stand-in for infinity. -/
theorem rank_big (X : Fin 4096 → Fin 64 → ℝ) (r : Fin 4096) (h : Holds (far (pts X)) r) :
    ((rank X r 10 : ℝ) : EReal) < Select.big := by
  have hn := lt_of_le_of_lt Consts.near (h.near ⟨10, by omega⟩ le_rfl)
  rw [far_apply, dist_pts, ← rank_of_lt X r 10 (by omega), ← EReal.coe_neg, EReal.coe_lt_coe_iff, neg_lt_neg_iff] at hn
  refine lt_trans (EReal.coe_lt_coe_iff.mpr ?_) Consts.big
  have hs := Real.sqrt_nonneg (rank X r 10)
  have hq := Real.mul_self_sqrt (rank_nonneg X r 10)
  have : Real.sqrt (rank X r 10) * Real.sqrt (rank X r 10) < 10 ^ 19 * 10 ^ 19 := mul_self_lt_mul_self hs hn
  rw [hq] at this
  exact this.trans_eq (by norm_num)

/-- Under the precondition every row is one the selection is right for. -/
theorem nearest (X : Fin 4096 → Fin 64 → ℝ) (r : Fin 4096) (h : Holds (far (pts X)) r) :
    Rows.Nearest (fun j => ((sqDist X r j : ℝ) : EReal)) (fun i => ((rank X r i : ℝ) : EReal)) Select.big where
  bot := EReal.bot_lt_coe _
  lt i hi := EReal.coe_lt_coe_iff.mpr (rank_lt X r h i hi)
  mem i hi := ⟨_, congrArg _ (rank_of_lt X r i (by omega)).symm⟩
  first j := by
    obtain ⟨p, hp, rfl⟩ := exists_rank X r j
    rw [← rank_of_lt X r p hp, EReal.coe_le_coe_iff]
    exact rank_le X r 0 p hp (Nat.zero_le p)
  gap i hi j hj := by
    obtain ⟨p, hp, rfl⟩ := exists_rank X r j
    rw [← rank_of_lt X r p hp, EReal.coe_lt_coe_iff] at hj
    rw [← rank_of_lt X r p hp, EReal.coe_le_coe_iff]
    refine rank_le X r (i + 1) p hp ?_
    by_contra hc
    exact absurd (rank_le X r p i (by omega) (by omega)) (not_le.mpr hj)
  one i hi j k hj hk := by
    have place_eq : ∀ c : Fin 4096, ((sqDist X r c : ℝ) : EReal) = ((rank X r i : ℝ) : EReal) →
        c = place (far (pts X)) r ⟨i, by omega⟩ := by
      intro c hc
      obtain ⟨p, hp, rfl⟩ := exists_rank X r c
      rw [← rank_of_lt X r p hp, EReal.coe_eq_coe_iff] at hc
      have hpi : p = i := by
        rcases lt_trichotomy p i with hlt | heq | hgt
        · have h1 := rank_lt X r h (i - 1) (by omega)
          rw [Nat.sub_add_cancel (by omega)] at h1
          have h2 := rank_le X r p (i - 1) (by omega) (by omega)
          linarith
        · exact heq
        · have h1 := rank_lt X r h i hi
          have h2 := rank_le X r (i + 1) p hp hgt
          linarith
      subst hpi
      rfl
    rw [place_eq j hj, place_eq k hk]
  few l j k n hj hk hn hjk hkn hjn h1 h2 h3 := by
    have back : ∀ c : Fin 4096, ((sqDist X r c : ℝ) : EReal) ≤ ((rank X r 10 : ℝ) : EReal) →
        (far (pts X) (ix2 r (place (far (pts X)) r ⟨10, by omega⟩)) : EReal) ≤ far (pts X) (ix2 r c) := by
      intro c hc
      rw [far_le, ← rank_of_lt X r 10 (by omega)]
      exact EReal.coe_le_coe_iff.mp hc
    exact h.few l ⟨j, hj⟩ ⟨k, hk⟩ ⟨n, hn⟩ (fun e => hjk (congrArg Fin.val e)) (fun e => hkn (congrArg Fin.val e))
      (fun e => hjn (congrArg Fin.val e)) _ rfl (back _ h1) (back _ h2) (back _ h3)
  big := rank_big X r h

end Cert.Nearest

end
-- ==== Proof.RefValue.lean ====
/- The value of the reference: its distances, its ten neighbours of every row, their mean, and the loss. -/
module

public import proofs.«01_k».proof.Proof.Gen.ReferenceIdeal.Run
public import proofs.«01_k».proof.Proof.Nearest
public import proofs.«01_k».proof.Proof.Loss
public import Idealize.ShloMosaic.Lib.Tactic.CleanTypes
public import Idealize.ShloMosaic.Lib.WordCmp
public import Idealize.ShloMosaic.Lib.WordArith

@[expose] public section

set_option maxRecDepth 16384

noncomputable section

namespace Cert.RefValue

open Cert.ReferenceIdeal Cert.ReferenceIdeal.Gen Cert.ReferenceIdeal.Value Cert.PointDist Cert.Nearest Cert.TopK
open Cert.KernelIdeal.Dist Idealize.ShloMosaic

/-- The points of a valuation. -/
abbrev points (V : Valuation τ sig (Elt Ideal)) : FVec Ideal S4096x64 .f32 := V (Proc.devRef .tc main_arg0)

/-- The clamped squared distances. -/
theorem v13_apply (V : Valuation τ sig (Elt Ideal)) (r c : Fin 4096) :
    (res_main_v13 (F := Ideal) V : FVec Ideal S4096x4096 .f32) (ix2 r c) = square (points V) r c := by
  unfold res_main_v13 res_main_v1
  clean_types
  pointwise [square, len]
  rw [Consts.two]

/-- The distances. -/
theorem v20_apply (V : Valuation τ sig (Elt Ideal)) (r c : Fin 4096) :
    (res_main_v20 (F := Ideal) V : FVec Ideal S4096x4096 .f32) (ix2 r c) = PointDist.dist (points V) r c := by
  unfold res_main_v20
  clean_types
  have h := v13_apply V r c
  generalize res_main_v13 (F := Ideal) V = d at h ⊢
  pointwise [PointDist.dist, root, h, id_eq]

/-- The negated distances. -/
theorem v21_eq (V : Valuation τ sig (Elt Ideal)) :
    (res_main_v21 (F := Ideal) V : FVec Ideal S4096x4096 .f32) = far (points V) := by
  refine funext fun (i : S4096x4096.Idx) => ?_
  have e : i = ix2 (i 0) (i 1) := by funext a; fin_cases a <;> rfl
  exact congrArg (fun a : EReal => -a) ((congrArg (res_main_v20 (F := Ideal) V : FVec Ideal S4096x4096 .f32) e).trans
    (v20_apply V (i 0) (i 1)))

/-- The column of the neighbour that stands `k + 1`-th. -/
theorem v22_apply (V : Valuation τ sig (Elt Ideal)) (r : Fin 4096) (k : Fin 10) :
    (res_main_v22 (F := Ideal) V : IVec S4096x10 32) (ix2 r k)
      = BitVec.ofNat 32 (place (far (points V)) r ⟨k.val + 1, by omega⟩).val := by
  unfold res_main_v22
  rw [v21_eq]
  have h := indices_apply (far (points V)) sliceFits_S4096x4096_S4096x11 r ⟨k.val + 1, by omega⟩
  generalize (Host.topK S4096x11 1 (FloatOps.cmpfTotal (F := Ideal) (φ := .f32) .gt) (far (points V))
    sliceFits_S4096x4096_S4096x11).2 = t at h ⊢
  pointwise
  simp only [Nat.add_comm 1, h]

/-- A column's word is not negative and at most 4095. -/
theorem column_word (c : Fin 4096) : IntOp.cmpi .slt (BitVec.ofNat 32 c.val) 0#32 = 0#1
    ∧ IntOp.cmpi .sge (BitVec.ofNat 32 c.val) 0#32 = 1#1 ∧ IntOp.cmpi .sle (BitVec.ofNat 32 c.val) 4095#32 = 1#1 := by
  have h := c.isLt
  refine ⟨?_, ?_, ?_⟩ <;> word_cmp <;> omega

/-- The same column, once negative columns are wrapped: none is. -/
theorem call2_v5_apply (V : Valuation τ sig (Elt Ideal)) (r : Fin 4096) (k : Fin 10) (z : Fin 1) :
    (res_main_call2_v5 (F := Ideal) V : IVec S4096x10x1 32) (ix3 r k z)
      = BitVec.ofNat 32 (place (far (points V)) r ⟨k.val + 1, by omega⟩).val := by
  unfold res_main_call2_v5
  have h := v22_apply V r k
  generalize res_main_v22 (F := Ideal) V = t at h ⊢
  pointwise [h]
  rw [(column_word _).1]
  rfl

/-- How the reference gathers: along each row. -/
abbrev along : GatherDims S4096x4096 S4096x10x1 S4096x10 := gather_S4096x4096_S4096x10x1_S4096x10_n_1_0_0_1_2_11

/-- The gather along a row takes the entry its index word names. -/
theorem gather_apply (x : FVec Ideal S4096x4096 .f32) (idx : IVec S4096x10x1 32) (r : Fin 4096) (k : Fin 10)
    (c : Fin 4096) (h : idx (ix3 r k (0 : Fin 1)) = BitVec.ofNat 32 c.val) :
    Host.gather along x idx (ix2 r k) = x (ix2 r c) := by
  have one : (1 : Fin 2) ∈ along.startIndexMap := List.mem_singleton.mpr rfl
  have zero : (0 : Fin 2) ∈ along.operandBatchingDims := List.mem_singleton.mpr rfl
  have word : along.siIdx (ix2 r k) ⟨along.startIndexMap.idxOf 1, List.idxOf_lt_length_iff.2 one⟩ = ix3 r k (0 : Fin 1) := by
    funext b
    match b with
    | ⟨0, _⟩ => rfl
    | ⟨1, _⟩ => rfl
    | ⟨2, _⟩ => rfl
  have row : along.start (ix2 r k) idx 0 + along.batchCoord (ix2 r k) 0 + along.offCoord (ix2 r k) 0 = r.val := by
    rw [along.start_batching _ _ _ zero, along.offCoord_eq_zero _ _ (fun m => ((along.mem_sKept _).mp m).2 zero),
      GatherDims.batchCoord, dif_pos zero, Nat.zero_add, Nat.add_zero]
    rfl
  have column : along.start (ix2 r k) idx 1 + along.batchCoord (ix2 r k) 1 + along.offCoord (ix2 r k) 1 = c.val := by
    rw [along.batchCoord_eq_zero _ _ (fun m => absurd (List.mem_singleton.mp m) (by decide)),
      along.offCoord_eq_zero _ _ (fun m => ((along.mem_sKept _).mp m).1 (List.mem_singleton.mpr rfl)),
      GatherDims.start, dif_pos one, word, h, Nat.add_zero, WordArith.toInt_ofNat_small c.val (by omega)]
    exact min_eq_left (Nat.le_sub_one_of_lt c.isLt)
  refine congrArg x (funext fun a => ?_)
  match a with
  | ⟨0, _⟩ => exact Fin.ext row
  | ⟨1, _⟩ => exact Fin.ext column

/-- Which columns are in range. -/
def inRange (V : Valuation τ sig (Elt Ideal)) : IVec S4096x10 1 :=
  Host.reduce IntOp.andi (andi (cmpi .sge (res_main_call2_v5 (F := Ideal) V)
      (broadcastInDim S4096x10x1 ![] bcast_S_S4096x10x1 (constantI S_ 32 0#32)))
    (cmpi .sle (res_main_call2_v5 (F := Ideal) V) (broadcastInDim S4096x10x1 ![0, 1, 2] bcast_S1x1x1_S4096x10x1_0_1_2
      (broadcastInDim S1x1x1 ![2] bcast_S1_S1x1x1_2 (constantI S1 32 4095#32))))) (constantI S_ 1 1#1)
    reducesTo_S4096x10x1_S4096x10_d2 h_S_

/-- The distances gathered, not a number where a column is out of range: none is. -/
def picked (V : Valuation τ sig (Elt Ideal)) : FVec Ideal S4096x10 .f32 :=
  select (inRange V) (Host.gather along (res_main_v20 (F := Ideal) V) (res_main_call2_v5 (F := Ideal) V))
    (broadcastInDim S4096x10 ![] bcast_S_S4096x10 (constant S_ .f32 0x7FC00000#32))

/-- A choice whose bit is set takes the first. -/
theorem select_one (m : IVec S4096x10 1) (a b : FVec Ideal S4096x10 .f32) (j : S4096x10.Idx) (h : m j = 1#1) :
    select m a b j = a j := by
  change Scalar.select (m j) (a j) (b j) = a j
  rw [h]
  rfl

/-- The distance of the neighbour that stands `k + 1`-th. -/
theorem picked_apply (V : Valuation τ sig (Elt Ideal)) (r : Fin 4096) (k : Fin 10) :
    picked V (ix2 r k) = PointDist.dist (points V) r (place (far (points V)) r ⟨k.val + 1, by omega⟩) := by
  have inside : inRange V (ix2 r k) = 1#1 := by
    refine Host.reduce_andi_one _ _ _ _ _ rfl fun (i : S4096x10x1.Idx) => ?_
    obtain ⟨p, q, z, rfl⟩ : ∃ (p : Fin 4096) (q : Fin 10) (z : Fin 1), i = ix3 p q z :=
      ⟨i 0, i 1, i 2, by funext a; fin_cases a <;> rfl⟩
    have w := call2_v5_apply V p q z
    generalize res_main_call2_v5 (F := Ideal) V = t at w ⊢
    obtain ⟨-, low, high⟩ := column_word (place (far (points V)) p ⟨q.val + 1, by omega⟩)
    pointwise [w]
    rw [low, high]
    rfl
  have g := gather_apply (res_main_v20 (F := Ideal) V) (res_main_call2_v5 (F := Ideal) V) r k _ (call2_v5_apply V r k 0)
  rw [v20_apply] at g
  exact (select_one _ _ _ _ inside).trans g

/-- The mean distance of the ten neighbours. -/
theorem v26_apply (V : Valuation τ sig (Elt Ideal)) (r : Fin 4096) :
    (res_main_v26 (F := Ideal) V : FVec Ideal S4096 .f32) (ix1 r)
      = Ideal.div (∑ k : Fin 10, PointDist.dist (points V) r (place (far (points V)) r ⟨k.val + 1, by omega⟩))
        ((10 : ℝ) : EReal) := by
  have e : (res_main_v26 (F := Ideal) V : FVec Ideal S4096 .f32) = Host.divf (Host.reduceAdd (picked V)
    (constant S_ .f32 0x00000000#32) reducesTo_S4096x10_S4096_d1 h_S_)
    (broadcastInDim S4096 ![] bcast_S_S4096 (constant S_ .f32 0x41200000#32)) := rfl
  rw [e]
  pointwise [picked_apply]
  rw [Consts.ten]

/-- The mean distance of the ten nearest of every row. -/
def mean (X : Fin 4096 → Fin 64 → ℝ) (r : Fin 4096) : ℝ := (∑ k : Fin 10, Real.sqrt (rank X r (k.val + 1))) * 10⁻¹

/-- Of real points the mean is a real number. -/
theorem mean_apply (V : Valuation τ sig (Elt Ideal)) (X : Fin 4096 → Fin 64 → ℝ) (hX : points V = pts X) (r : Fin 4096) :
    (res_main_v26 (F := Ideal) V : FVec Ideal S4096 .f32) (ix1 r) = ((mean X r : ℝ) : EReal) := by
  rw [v26_apply, hX, Ideal.div_coe (by norm_num), mean, EReal.coe_mul, Reals.coe_sum, one_div]
  congr 1
  exact Finset.sum_congr rfl fun k _ => by rw [dist_pts, rank_of_lt X r (k.val + 1) (by omega)]

/-- The exponentials, less some number that the largest mean is. -/
theorem exists_exp (V : Valuation τ sig (Elt Ideal)) (X : Fin 4096 → Fin 64 → ℝ) (hX : points V = pts X) :
    ∃ c : ℝ, ∀ r, (res_main_v32 (F := Ideal) V : FVec Ideal S4096 .f32) (ix1 r) = ((Real.exp (mean X r - c) : ℝ) : EReal) := by
  obtain ⟨c, hc⟩ := Reals.exists_max (n := 4095) (mean X)
  refine ⟨c, fun r => ?_⟩
  unfold res_main_v32
  clean_types
  have h := mean_apply V X hX
  generalize res_main_v26 (F := Ideal) V = t at h ⊢
  pointwise [h]
  rw [Consts.bot, hc, max_eq_right bot_le, ← EReal.coe_sub, Ideal.exp_coe]

/-- The uniform weight. -/
theorem weight_apply (V : Valuation τ sig (Elt Ideal)) (r : Fin 4096) :
    (res_main_v39 (F := Ideal) V : FVec Ideal S4096 .f32) (ix1 r) = ((4096⁻¹ : ℝ) : EReal) := by
  unfold res_main_v39
  clean_types
  pointwise
  rw [Consts.points, Ideal.div_coe (by norm_num)]
  rw [one_mul, one_div]

/-- The loss. -/
theorem result (V : Valuation τ sig (Elt Ideal)) (X : Fin 4096 → Fin 64 → ℝ) (hX : points V = pts X) :
    (shapeCast S1x1 (Host.reduceAdd (mulf (res_main_v39 (F := Ideal) V) (subf (Host.log (res_main_v39 (F := Ideal) V))
      (Host.log (Host.divf (res_main_v32 (F := Ideal) V) (broadcastInDim S4096 ![0] bcast_S1_S4096_0
        (broadcastInDim S1 ![] bcast_S_S1 (Host.reduceAdd (res_main_v32 (F := Ideal) V) (constant S_ .f32 0x00000000#32)
          reducesTo_S4096_S_d0 h_S_))))))) (constant S_ .f32 0x00000000#32) reducesTo_S4096_S_d0 h_S_) shapeCasts_S_S1x1
      : FVec Ideal S1x1 .f32) = fun _ => ((Loss.loss (mean X) : ℝ) : EReal) := by
  obtain ⟨c, hc⟩ := exists_exp V X hX
  have hw := weight_apply V
  generalize res_main_v39 (F := Ideal) V = w at hw ⊢
  generalize res_main_v32 (F := Ideal) V = t at hc ⊢
  funext j
  idx_vars j
  pointwise [hw, hc]
  have pos : (0 : ℝ) < ∑ x, Real.exp (mean X x - c) := Loss.sum_exp_pos fun x => mean X x - c
  rw [← Loss.divergence (mean X) c, Reals.coe_sum, ← Reals.coe_sum]
  refine Finset.sum_congr rfl fun r _ => ?_
  have inv : (0 : ℝ) < 4096⁻¹ := by norm_num
  rw [Ideal.div_coe pos.ne', ← EReal.coe_mul, one_div, Ideal.log_coe, Ideal.log_coe, if_neg (not_le.mpr inv),
    if_neg (not_le.mpr (mul_pos (Real.exp_pos _) (inv_pos.mpr pos))), ← EReal.coe_sub, ← EReal.coe_mul]

/-- The precondition is the verdict on the negated distances. -/
theorem fn_eq (V : Valuation τ sig (Elt Ideal)) :
    Cert.Pre_separated.fn (F := Ideal) (points V) = Separated.verdict (res_main_v21 (F := Ideal) V) := rfl

/-- Under the precondition the points are real, and every row is one the kernel's selection is right for. -/
theorem of_pre (V : Valuation τ sig (Elt Ideal)) (h : Cert.Pre_separated.fn (F := Ideal) (points V) = fun _ => 1#1) :
    ∃ X, points V = pts X ∧ ∀ r, Rows.Nearest (fun j => ((sqDist X r j : ℝ) : EReal))
      (fun i => ((rank X r i : ℝ) : EReal)) Cert.KernelIdeal.Select.big := by
  rw [fn_eq, v21_eq] at h
  have hh := Separated.holds _ h
  obtain ⟨X, hX⟩ := exists_real _ hh
  rw [hX] at hh
  exact ⟨X, hX, fun r => nearest X r (hh r)⟩

end Cert.RefValue

end
-- ==== Proof.lean ====
/- The certificate's proof: the frames are the generated runs read at each program's float instance, and the two
   named constants are the values the certificate's table gives them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import Idealize.ShloMosaic.Adequacy
public import proofs.«01_k».proof.Proof.Gen.KernelIdeal.Value
public import proofs.«01_k».proof.Proof.Gen.ReferenceIdeal.Run
public import Idealize.ShloMosaic.Init
public import proofs.«01_k».proof.Proof.KernelFinal
public import proofs.«01_k».proof.Proof.RefValue

@[expose] public section

noncomputable section

namespace Cert.Proof

open Idealize.ShloMosaic Idealize.SL.Sem Cert.Kernel

/-- The reference runs to an end, leaves its argument as it was, and every semaphore reads zero: it has none. -/
theorem frame_ri (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The two named constants are what the certificate's table says: one tenth, and the logarithm of 4096. -/
theorem preserves : Cert.preserves_Kernel_KernelIdeal :=
  ⟨IdealRules.named_const.statement Cert.KernelIdeal.κ "tenth" .f32 0x3DCCCCCD#32 ((10⁻¹ : ℝ) : EReal) rfl,
    IdealRules.named_const.statement Cert.KernelIdeal.κ "log_n" .f32 0x41051592#32 ((Real.log 4096 : ℝ) : EReal) rfl⟩

/-- Where the precondition holds, the kernel and the reference end with the same loss. -/
theorem algebraic : Cert.algebraic_KernelIdeal_ReferenceIdeal_pre_separated := by
  intro m g m' g' hpre hagree
  refine ⟨fun c => (Cert.KernelIdeal.Gen.dats m 0 c).arrAt 1 Cert.KernelIdeal.cfg0.N,
    Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  have same : Cert.RefValue.points (StableHlo.launchContents m' c)
      = m ((c.tc : Thread Cert.KernelIdeal.nD Cert.KernelIdeal.τ).loc Cert.KernelIdeal.main_arg0) := hagree c
  obtain ⟨X, hX, hn⟩ := Cert.RefValue.of_pre (StableHlo.launchContents m' c) (by rw [same]; exact hpre c)
  have hk := Cert.KernelIdeal.Final.result_loss m c X (same.symm.trans hX) (Cert.Nearest.rank X)
    (Cert.Nearest.rank_nonneg X) hn
  exact (Cert.RefValue.result (StableHlo.launchContents m' c) X hX).trans hk.symm

/-- Every claim of the certificate holds. -/
theorem claim : Cert.Claim :=
  ⟨Cert.Kernel.Gen.facts, Cert.KernelIdeal.Gen.facts, Cert.ReferenceIdeal.Gen.facts, Cert.Pre_separated.Gen.facts,
    fun m ρ _ => Cert.Kernel.Gen.frame m ρ, fun m ρ _ => Cert.KernelIdeal.Gen.frame m ρ,
    fun m ρ _ => Cert.KernelIdeal.Gen.frame m ρ, fun m g _ => frame_ri m g, fun m g _ => frame_ri m g,
    preserves, algebraic⟩

end Cert.Proof

end
